-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_v55) = v4 c
          ∧ r.2.mem ((c.tc : Thread Cert.Reference3Ideal.nD Cert.Reference3Ideal.τ).loc Cert.Reference3Ideal.main_v51) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "q_scale" .f32 0x3E38AA3B#32 (((8 * (Real.log 2))⁻¹ : ℝ) : EReal)
  ∧ IdealRules.named_const.Statement Cert.Kernel4Ideal.κ "head_scale" .f32 0x3DB504F3#32 (((Real.sqrt 128)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)) (v6 : (c : Dev Cert.Kernel4Ideal.nD) → Buf (Elt Ideal) ((c.tc : Thread Cert.Kernel4Ideal.nD Cert.Kernel4Ideal.τ).loc Cert.Kernel4Ideal.main_v39_6)) (v7 : (c : Dev Cert.Kernel4Ideal.nD) → Buf (Elt Ideal) ((c.tc : Thread Cert.Kernel4Ideal.nD Cert.Kernel4Ideal.τ).loc Cert.Kernel4Ideal.main_v39_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_v39_6) = v6 c
          ∧ r.2.mem ((c.tc : Thread Cert.Kernel4Ideal.nD Cert.Kernel4Ideal.τ).loc Cert.Kernel4Ideal.main_v39_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_v159) = v1 c
          ∧ r.2.mem ((c.tc : Thread Cert.Reference4Ideal.nD Cert.Reference4Ideal.τ).loc Cert.Reference4Ideal.main_v160) = v2 c
          ∧ r.2.mem ((c.tc : Thread Cert.Reference4Ideal.nD Cert.Reference4Ideal.τ).loc Cert.Reference4Ideal.main_v161) = v3 c
          ∧ r.2.mem ((c.tc : Thread Cert.Reference4Ideal.nD Cert.Reference4Ideal.τ).loc Cert.Reference4Ideal.main_v162) = v4 c
          ∧ r.2.mem ((c.tc : Thread Cert.Reference4Ideal.nD Cert.Reference4Ideal.τ).loc Cert.Reference4Ideal.main_v163) = v5 c
          ∧ r.2.mem ((c.tc : Thread Cert.Reference4Ideal.nD Cert.Reference4Ideal.τ).loc Cert.Reference4Ideal.main_v164) = v6 c
          ∧ r.2.mem ((c.tc : Thread Cert.Reference4Ideal.nD Cert.Reference4Ideal.τ).loc Cert.Reference4Ideal.main_v165) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S32x2048x1024 : Shape := ⟨3, ![32, 2048, 1024]⟩
abbrev S32x2048x16 : Shape := ⟨3, ![32, 2048, 16]⟩
abbrev S_ : Shape := ⟨0, ![]⟩

class Facts : Prop where
  bcast_S_S32x2048x1024 : S_.BroadcastsInDim S32x2048x1024 (![] : Fin 0 → Fin S32x2048x1024.rank)
  bcast_S_S32x2048x16 : S_.BroadcastsInDim S32x2048x16 (![] : Fin 0 → Fin S32x2048x16.rank)

variable [Facts]

def fn {F : FTy → Type} [FloatOps F] (main_arg0 : FVec F S32x2048x1024 .f32) (main_arg1 : FVec F S32x2048x1024 .f32) (main_arg2 : FVec F S32x2048x1024 .f32) (main_arg3 : FVec F S32x2048x1024 .f32) (main_arg4 : FVec F S32x2048x16 .f32) : IVec S32x2048x1024 1 × IVec S32x2048x1024 1 × IVec S32x2048x16 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S32x2048x1024 .f32 := Host.absf main_arg1
  let main_cst_0 : FVec F S_ .f32 := constant S_ .f32 0x7F800000#32
  let main_v4 : FVec F S32x2048x1024 .f32 := broadcastInDim S32x2048x1024 ![] bcast_S_S32x2048x1024 main_cst_0
  let main_v5 : IVec S32x2048x1024 1 := cmpf .olt main_v3 main_v4
  let main_v6 : FVec F S32x2048x16 .f32 := Host.absf main_arg4
  let main_cst_1 : FVec F S_ .f32 := constant S_ .f32 0x7F800000#32
  let main_v7 : FVec F S32x2048x16 .f32 := broadcastInDim S32x2048x16 ![] bcast_S_S32x2048x16 main_cst_1
  let main_v8 : IVec S32x2048x16 1 := cmpf .olt main_v6 main_v7
  (main_v2, main_v5, main_v8)
-- ==== Kernel.lean ====
abbrev S32x2048x1024 : Shape := ⟨3, ![32, 2048, 1024]⟩
abbrev S32x2048x16 : Shape := ⟨3, ![32, 2048, 16]⟩
abbrev S_ : Shape := ⟨0, ![]⟩
abbrev S32x4x512x16 : Shape := ⟨4, ![32, 4, 512, 16]⟩
abbrev S32x4x16x512 : Shape := ⟨4, ![32, 4, 16, 512]⟩
abbrev S1x2048x128 : Shape := ⟨3, ![1, 2048, 128]⟩
abbrev S1x4x16x512 : Shape := ⟨4, ![1, 4, 16, 512]⟩
abbrev S1x128 : Shape := ⟨2, ![1, 128]⟩
abbrev S512x512 : Shape := ⟨2, ![512, 512]⟩
abbrev S1x512x128 : Shape := ⟨3, ![1, 512, 128]⟩
abbrev S512x128 : Shape := ⟨2, ![512, 128]⟩
abbrev S1024x128 : Shape := ⟨2, ![1024, 128]⟩
abbrev S1024x1 : Shape := ⟨2, ![1024, 1]⟩
abbrev S1024x256 : Shape := ⟨2, ![1024, 256]⟩
abbrev S1024x512 : Shape := ⟨2, ![1024, 512]⟩
abbrev S1x1x1x512 : Shape := ⟨4, ![1, 1, 1, 512]⟩
abbrev S1x512 : Shape := ⟨2, ![1, 512]⟩
abbrev S1024 : Shape := ⟨1, ![1024]⟩
abbrev S512x256 : Shape := ⟨2, ![512, 256]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x1024, .f32⟩
  | .hbm, ⟨4, _⟩ => ⟨S32x2048x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x2048x1024, .f32⟩
  | .hbm, ⟨10, _⟩ => ⟨S32x2048x1024, .f32⟩
  | .hbm, ⟨11, _⟩ => ⟨S32x2048x1024, .bf16⟩
  | .hbm, ⟨12, _⟩ => ⟨S32x4x512x16, .f32⟩
  | .hbm, ⟨13, _⟩ => ⟨S32x4x16x512, .f32⟩
  | .hbm, ⟨14, _⟩ => ⟨S32x2048x1024, .bf16⟩
  | .hbm, ⟨15, _⟩ => ⟨S32x2048x1024, .bf16⟩
  | .hbm, ⟨16, _⟩ => ⟨S32x2048x1024, .bf16⟩
  | .hbm, ⟨17, _⟩ => ⟨S32x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x4x16x512, .f32⟩
  | .local _ .vmem, ⟨9, _⟩ => ⟨S1x4x16x512, .f32⟩
  | .local _ .vmem, ⟨10, _⟩ => ⟨S1x2048x128, .bf16⟩
  | .local _ .vmem, ⟨11, _⟩ => ⟨S1x2048x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_off1 (i : grid0.Coords) (c0_i32 : BitVec 32) : Fin 4 → Nat :=
  let c0_8 : Index := 0#32
  let c0_9 : Index := 0#32
  let c2_i32 : BitVec 32 := 2#32
  let arg1 : BitVec 32 := BitVec.ofNat 32 (i 1).val
  let v23 : BitVec 32 := Scalar.muli c2_i32 arg1
  let v24 : BitVec 32 := Scalar.addi v23 c0_i32
  let v25 : Index := Scalar.indexCast v24
  let c0_10 : Index := 0#32
  ![0, 0, v25.toNat, 0]
def k0_off2 (i : grid0.Coords) (c0_i32_63 : BitVec 32) : Fin 4 → Nat :=
  let c0_64 : Index := 0#32
  let c1 : Index := 1#32
  let c2_i32_62 : BitVec 32 := 2#32
  let arg1 : BitVec 32 := BitVec.ofNat 32 (i 1).val
  let v144 : BitVec 32 := Scalar.muli c2_i32_62 arg1
  let v145 : BitVec 32 := Scalar.addi v144 c0_i32_63
  let v146 : Index := Scalar.indexCast v145
  let c0_65 : Index := 0#32
  ![0, 1, v146.toNat, 0]
def k0_off3 (i : grid0.Coords) (c0_i32_141 : BitVec 32) : Fin 4 → Nat :=
  let c0_142 : Index := 0#32
  let c2 : Index := 2#32
  let c2_i32_140 : BitVec 32 := 2#32
  let arg1 : BitVec 32 := BitVec.ofNat 32 (i 1).val
  let v306 : BitVec 32 := Scalar.muli c2_i32_140 arg1
  let v307 : BitVec 32 := Scalar.addi v306 c0_i32_141
  let v308 : Index := Scalar.indexCast v307
  let c0_143 : Index := 0#32
  ![0, 2, v308.toNat, 0]
def k0_off4 (i : grid0.Coords) (c0_i32_241 : BitVec 32) : Fin 4 → Nat :=
  let c0_242 : Index := 0#32
  let c3 : Index := 3#32
  let c2_i32_240 : BitVec 32 := 2#32
  let arg1 : BitVec 32 := BitVec.ofNat 32 (i 1).val
  let v509 : BitVec 32 := Scalar.muli c2_i32_240 arg1
  let v510 : BitVec 32 := Scalar.addi v509 c0_i32_241
  let v511 : Index := Scalar.indexCast v510
  let c0_243 : Index := 0#32
  ![0, 3, v511.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S32x2048x1024 : Shape := ⟨3, ![32, 2048, 1024]⟩
abbrev S32x2048x16 : Shape := ⟨3, ![32, 2048, 16]⟩
abbrev S32x2048x16x64 : Shape := ⟨4, ![32, 2048, 16, 64]⟩
abbrev S32x16x2048 : Shape := ⟨3, ![32, 16, 2048]⟩
abbrev S32x16x2048x2048 : Shape := ⟨4, ![32, 16, 2048, 2048]⟩
abbrev S_ : Shape := ⟨0, ![]⟩
abbrev S32x16x2048x1 : Shape := ⟨4, ![32, 16, 2048, 1]⟩
abbrev S32x16x1x2048 : Shape := ⟨4, ![32, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x16x64x2048 : Shape := ⟨4, ![32, 16, 64, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x1024, .f32⟩
  | .hbm, ⟨4, _⟩ => ⟨S32x2048x16, .f32⟩
  | .hbm, ⟨5, _⟩ => ⟨S32x2048x16x64, .f32⟩
  | .hbm, ⟨6, _⟩ => ⟨S32x2048x16x64, .f32⟩
  | .hbm, ⟨7, _⟩ => ⟨S32x2048x16x64, .f32⟩
  | .hbm, ⟨8, _⟩ => ⟨S32x16x2048, .f32⟩
  | .hbm, ⟨9, _⟩ => ⟨S32x16x2048x2048, .f32⟩
  | .hbm, ⟨10, _⟩ => ⟨S_, .f32⟩
  | .hbm, ⟨11, _⟩ => ⟨S32x16x2048x2048, .f32⟩
  | .hbm, ⟨12, _⟩ => ⟨S32x16x2048x2048, .f32⟩
  | .hbm, ⟨13, _⟩ => ⟨S32x16x2048x1, .f32⟩
  | .hbm, ⟨14, _⟩ => ⟨S32x16x1x2048, .f32⟩
  | .hbm, ⟨15, _⟩ => ⟨S32x16x2048x2048, .f32⟩
  | .hbm, ⟨16, _⟩ => ⟨S32x16x2048x2048, .f32⟩
  | .hbm, ⟨17, _⟩ => ⟨S32x16x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S32x16x2048x2048, .f32⟩
  | .hbm, ⟨26, _⟩ => ⟨S_, .f32⟩
  | .hbm, ⟨27, _⟩ => ⟨S_, .f32⟩
  | .hbm, ⟨28, _⟩ => ⟨S32x16x2048x2048, .i1⟩
  | .hbm, ⟨29, _⟩ => ⟨S32x16x2048x2048, .f32⟩
  | .hbm, ⟨30, _⟩ => ⟨S32x16x2048x2048, .f32⟩
  | .hbm, ⟨31, _⟩ => ⟨S_, .f32⟩
  | .hbm, ⟨32, _⟩ => ⟨S32x16x2048, .f32⟩
  | .hbm, ⟨33, _⟩ => ⟨S_, .f32⟩
  | .hbm, ⟨34, _⟩ => ⟨S32x16x2048, .f32⟩
  | .hbm, ⟨35, _⟩ => ⟨S32x16x2048, .f32⟩
  | .hbm, ⟨36, _⟩ => ⟨S32x16x2048x1, .f32⟩
  | .hbm, ⟨37, _⟩ => ⟨S32x16x2048x2048, .f32⟩
  | .hbm, ⟨38, _⟩ => ⟨S32x16x2048x2048, .f32⟩
  | .hbm, ⟨39, _⟩ => ⟨S32x16x2048x2048, .f32⟩
  | .hbm, ⟨40, _⟩ => ⟨S_, .f32⟩
  | .hbm, ⟨41, _⟩ => ⟨S32x16x2048, .f32⟩
  | .hbm, ⟨42, _⟩ => ⟨S32x16x2048x1, .f32⟩
  | .hbm, ⟨43, _⟩ => ⟨S32x16x2048x2048, .f32⟩
  | .hbm, ⟨44, _⟩ => ⟨S32x16x2048x2048, .f32⟩
  | .hbm, ⟨45, _⟩ => ⟨S32x16x64x2048, .f32⟩
  | .hbm, ⟨46, _⟩ => ⟨S32x2048x16x64, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel2.lean ====
abbrev S65536x1024 : Shape := ⟨2, ![65536, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S2x1024, .f32⟩
  | .hbm, ⟨4, _⟩ => ⟨S1024x1024, .bf16⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S2x1024, .f32⟩
  | .hbm, ⟨4, _⟩ => ⟨S65536x1024, .f32⟩
  | .hbm, ⟨5, _⟩ => ⟨S65536x1024, .f32⟩
  | .hbm, ⟨6, _⟩ => ⟨S1x1024, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S1024x1024 : Shape := ⟨2, ![1024, 1024]⟩
abbrev S2x1024 : Shape := ⟨2, ![2, 1024]⟩
abbrev S1024x4112 : Shape := ⟨2, ![1024, 4112]⟩
abbrev S16 : Shape := ⟨1, ![16]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S1024x4224 : Shape := ⟨2, ![1024, 4224]⟩
abbrev S1x1024 : Shape := ⟨2, ![1, 1024]⟩
abbrev S1x128 : Shape := ⟨2, ![1, 128]⟩
abbrev S1 : Shape := ⟨1, ![1]⟩
abbrev S2 : Shape := ⟨1, ![2]⟩
abbrev S32x4x16x512 : Shape := ⟨4, ![32, 4, 16, 512]⟩
abbrev S256x1024 : Shape := ⟨2, ![256, 1024]⟩
abbrev S256x512 : Shape := ⟨2, ![256, 512]⟩
abbrev S1x1x16x256 : Shape := ⟨4, ![1, 1, 16, 256]⟩
abbrev S8x128 : Shape := ⟨2, ![8, 128]⟩
abbrev S512x1024 : Shape := ⟨2, ![512, 1024]⟩
abbrev S256 : Shape := ⟨1, ![256]⟩
abbrev S256x1 : Shape := ⟨2, ![256, 1]⟩
abbrev S1024x512 : Shape := ⟨2, ![1024, 512]⟩
abbrev S256x128 : Shape := ⟨2, ![256, 128]⟩
abbrev S128x256 : Shape := ⟨2, ![128, 256]⟩
abbrev S16x256 : Shape := ⟨2, ![16, 256]⟩

abbrev nBuf : Space → Nat
  | .hbm => 32
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S2x1024, .f32⟩
  | .hbm, ⟨5, _⟩ => ⟨S2x1024, .f32⟩
  | .hbm, ⟨6, _⟩ => ⟨S1024x4112, .f32⟩
  | .hbm, ⟨7, _⟩ => ⟨S16, .f32⟩
  | .hbm, ⟨8, _⟩ => ⟨S1024x4096, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x4224, .f32⟩
  | .hbm, ⟨14, _⟩ => ⟨S1024x4224, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S65536x1024, .f32⟩
  | .hbm, ⟨27, _⟩ => ⟨S65536x1024, .bf16⟩
  | .hbm, ⟨28, _⟩ => ⟨S65536x1024, .bf16⟩
  | .hbm, ⟨29, _⟩ => ⟨S65536x1024, .bf16⟩
  | .hbm, ⟨30, _⟩ => ⟨S65536x1024, .bf16⟩
  | .hbm, ⟨31, _⟩ => ⟨S32x4x16x512, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4224, .bf16⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1x1x16x256, .f32⟩
  | .local _ .vmem, ⟨22, _⟩ => ⟨S1x1x16x256, .f32⟩
  | .local _ .vmem, ⟨23, _⟩ => ⟨S256x1024, .bf16⟩
  | .local _ .vmem, ⟨24, _⟩ => ⟨S256x1024, .bf16⟩
  | .local _ .vmem, ⟨25, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond4 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v28 c2_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v28 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi v1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v18.toNat, v45.toNat, c0_i32_24.toNat, v55.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4224 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S65536x1024 : Shape := ⟨2, ![65536, 1024]⟩
abbrev S65536x512 : Shape := ⟨2, ![65536, 512]⟩
abbrev S1024x1024 : Shape := ⟨2, ![1024, 1024]⟩
abbrev S2x1024 : Shape := ⟨2, ![2, 1024]⟩
abbrev S1024x4112 : Shape := ⟨2, ![1024, 4112]⟩
abbrev S16 : Shape := ⟨1, ![16]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x4112 : Shape := ⟨2, ![65536, 4112]⟩
abbrev S65536x16 : Shape := ⟨2, ![65536, 16]⟩
abbrev S1x16 : Shape := ⟨2, ![1, 16]⟩
abbrev S32x2048x16 : Shape := ⟨3, ![32, 2048, 16]⟩
abbrev S32x4x512x16 : Shape := ⟨4, ![32, 4, 512, 16]⟩
abbrev S32x4x16x512 : Shape := ⟨4, ![32, 4, 16, 512]⟩

abbrev nBuf : Space → Nat
  | .hbm => 89
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S2x1024, .f32⟩
  | .hbm, ⟨5, _⟩ => ⟨S2x1024, .f32⟩
  | .hbm, ⟨6, _⟩ => ⟨S1024x4112, .f32⟩
  | .hbm, ⟨7, _⟩ => ⟨S16, .f32⟩
  | .hbm, ⟨8, _⟩ => ⟨S65536x1024, .bf16⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S65536x4112, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x16, .f32⟩
  | .hbm, ⟨54, _⟩ => ⟨S1x16, .f32⟩
  | .hbm, ⟨55, _⟩ => ⟨S65536x16, .f32⟩
  | .hbm, ⟨56, _⟩ => ⟨S65536x16, .f32⟩
  | .hbm, ⟨57, _⟩ => ⟨S65536x16, .f32⟩
  | .hbm, ⟨58, _⟩ => ⟨S_, .f32⟩
  | .hbm, ⟨59, _⟩ => ⟨S65536x16, .f32⟩
  | .hbm, ⟨60, _⟩ => ⟨S65536x16, .f32⟩
  | .hbm, ⟨61, _⟩ => ⟨S65536x16, .f32⟩
  | .hbm, ⟨62, _⟩ => ⟨S65536x16, .f32⟩
  | .hbm, ⟨63, _⟩ => ⟨S65536x16, .i1⟩
  | .hbm, ⟨64, _⟩ => ⟨S65536x16, .f32⟩
  | .hbm, ⟨65, _⟩ => ⟨S65536x16, .f32⟩
  | .hbm, ⟨66, _⟩ => ⟨S65536x16, .f32⟩
  | .hbm, ⟨67, _⟩ => ⟨S65536x16, .f32⟩
  | .hbm, ⟨68, _⟩ => ⟨S65536x16, .f32⟩
  | .hbm, ⟨69, _⟩ => ⟨S65536x16, .f32⟩
  | .hbm, ⟨70, _⟩ => ⟨S65536x16, .f32⟩
  | .hbm, ⟨71, _⟩ => ⟨S65536x16, .f32⟩
  | .hbm, ⟨72, _⟩ => ⟨S65536x16, .f32⟩
  | .hbm, ⟨73, _⟩ => ⟨S32x2048x16, .f32⟩
  | .hbm, ⟨74, _⟩ => ⟨S_, .f32⟩
  | .hbm, ⟨75, _⟩ => ⟨S_, .f32⟩
  | .hbm, ⟨76, _⟩ => ⟨S32x2048x16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S65536x1024, .f32⟩
  | .hbm, ⟨82, _⟩ => ⟨S65536x1024, .f32⟩
  | .hbm, ⟨83, _⟩ => ⟨S32x4x512x16, .f32⟩
  | .hbm, ⟨84, _⟩ => ⟨S32x4x16x512, .f32⟩
  | .hbm, ⟨85, _⟩ => ⟨S65536x1024, .bf16⟩
  | .hbm, ⟨86, _⟩ => ⟨S65536x1024, .bf16⟩
  | .hbm, ⟨87, _⟩ => ⟨S65536x1024, .bf16⟩
  | .hbm, ⟨88, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v43 : Ref sig .tc := ⟨.hbm, 72, rfl⟩
abbrev main_v44 : Ref sig .tc := ⟨.hbm, 73, rfl⟩
abbrev main_call1_call0_cst : Ref sig .tc := ⟨.hbm, 74, rfl⟩
abbrev main_call1_call0_v0 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]
-- ==== Kernel4.lean ====
abbrev S65536x1024 : Shape := ⟨2, ![65536, 1024]⟩
abbrev S32x2048 : Shape := ⟨2, ![32, 2048]⟩
abbrev S2x1024 : Shape := ⟨2, ![2, 1024]⟩
abbrev S1024x4104 : Shape := ⟨2, ![1024, 4104]⟩
abbrev S4x1536 : Shape := ⟨2, ![4, 1536]⟩
abbrev S4 : Shape := ⟨1, ![4]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S1024x4224 : Shape := ⟨2, ![1024, 4224]⟩
abbrev S8 : Shape := ⟨1, ![8]⟩
abbrev S128 : Shape := ⟨1, ![128]⟩
abbrev S128x1 : Shape := ⟨2, ![128, 1]⟩
abbrev S256x1x256 : Shape := ⟨3, ![256, 1, 256]⟩
abbrev S1x1024 : Shape := ⟨2, ![1, 1024]⟩
abbrev S1x128 : Shape := ⟨2, ![1, 128]⟩
abbrev S1 : Shape := ⟨1, ![1]⟩
abbrev S2 : Shape := ⟨1, ![2]⟩
abbrev S65536x512 : Shape := ⟨2, ![65536, 512]⟩
abbrev S65536x128 : Shape := ⟨2, ![65536, 128]⟩
abbrev S256x1024 : Shape := ⟨2, ![256, 1024]⟩
abbrev S1x1x256 : Shape := ⟨3, ![1, 1, 256]⟩
abbrev S256x512 : Shape := ⟨2, ![256, 512]⟩
abbrev S256x128 : Shape := ⟨2, ![256, 128]⟩
abbrev S8x1536 : Shape := ⟨2, ![8, 1536]⟩
abbrev S256 : Shape := ⟨1, ![256]⟩
abbrev S256x1 : Shape := ⟨2, ![256, 1]⟩
abbrev S1x256 : Shape := ⟨2, ![1, 256]⟩
abbrev S128x256 : Shape := ⟨2, ![128, 256]⟩
abbrev S1024x512 : Shape := ⟨2, ![1024, 512]⟩
abbrev S8x512 : Shape := ⟨2, ![8, 512]⟩
abbrev S1x512 : Shape := ⟨2, ![1, 512]⟩
abbrev S248x512 : Shape := ⟨2, ![248, 512]⟩

abbrev nBuf : Space → Nat
  | .hbm => 114
  | .vmem => 29
  | .smem => 0
  | _ => 0

abbrev bufTy : (tb : Table) → Fin (tcTables nBuf tb) → BufTy
  | .hbm, ⟨0, _⟩ => ⟨S65536x1024, .f32⟩
  | .hbm, ⟨1, _⟩ => ⟨S32x2048, .i32⟩
  | .hbm, ⟨2, _⟩ => ⟨S2x1024, .f32⟩
  | .hbm, ⟨3, _⟩ => ⟨S1024x4104, .f32⟩
  | .hbm, ⟨4, _⟩ => ⟨S4x1536, .f32⟩
  | .hbm, ⟨5, _⟩ => ⟨S4, .f32⟩
  | .hbm, ⟨6, _⟩ => ⟨S4, .f32⟩
  | .hbm, ⟨7, _⟩ => ⟨S1024x4096, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x4224, .f32⟩
  | .hbm, ⟨13, _⟩ => ⟨S1024x4224, .bf16⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S128, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S_, .i1⟩
  | .hbm, ⟨42, _⟩ => ⟨S128, .i1⟩
  | .hbm, ⟨43, _⟩ => ⟨S128, .i1⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S_, .i1⟩
  | .hbm, ⟨67, _⟩ => ⟨S128, .i1⟩
  | .hbm, ⟨68, _⟩ => ⟨S128, .i1⟩
  | .hbm, ⟨69, _⟩ => ⟨S128, .i1⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S128x1, .i32⟩
  | .hbm, ⟨81, _⟩ => ⟨S128, .f32⟩
  | .hbm, ⟨82, _⟩ => ⟨S_, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128x1, .f32⟩
  | .hbm, ⟨87, _⟩ => ⟨S256x1x256, .i32⟩
  | .hbm, ⟨88, _⟩ => ⟨S1x1024, .f32⟩
  | .hbm, ⟨89, _⟩ => ⟨S_, .f32⟩
  | .hbm, ⟨90, _⟩ => ⟨S1x128, .f32⟩
  | .hbm, ⟨91, _⟩ => ⟨S_, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S2, .i32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S_, .i32⟩
  | .hbm, ⟨100, _⟩ => ⟨S1, .i32⟩
  | .hbm, ⟨101, _⟩ => ⟨S_, .i32⟩
  | .hbm, ⟨102, _⟩ => ⟨S1, .i32⟩
  | .hbm, ⟨103, _⟩ => ⟨S2, .i32⟩
  | .hbm, ⟨104, _⟩ => ⟨S1x128, .f32⟩
  | .hbm, ⟨105, _⟩ => ⟨S65536x512, .bf16⟩
  | .hbm, ⟨106, _⟩ => ⟨S65536x512, .bf16⟩
  | .hbm, ⟨107, _⟩ => ⟨S65536x512, .bf16⟩
  | .hbm, ⟨108, _⟩ => ⟨S65536x512, .bf16⟩
  | .hbm, ⟨109, _⟩ => ⟨S65536x512, .bf16⟩
  | .hbm, ⟨110, _⟩ => ⟨S65536x512, .bf16⟩
  | .hbm, ⟨111, _⟩ => ⟨S65536x512, .bf16⟩
  | .hbm, ⟨112, _⟩ => ⟨S65536x512, .bf16⟩
  | .hbm, ⟨113, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1x256, .i32⟩
  | .local _ .vmem, ⟨3, _⟩ => ⟨S1x1x256, .i32⟩
  | .local _ .vmem, ⟨4, _⟩ => ⟨S128x1, .f32⟩
  | .local _ .vmem, ⟨5, _⟩ => ⟨S1x1024, .f32⟩
  | .local _ .vmem, ⟨6, _⟩ => ⟨S1024x4224, .bf16⟩
  | .local _ .vmem, ⟨7, _⟩ => ⟨S4x1536, .f32⟩
  | .local _ .vmem, ⟨8, _⟩ => ⟨S1x128, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x128, .f32⟩
  | .local _ .vmem, ⟨27, _⟩ => ⟨S256x128, .f32⟩
  | .local _ .vmem, ⟨28, _⟩ => ⟨S8x1536, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v14 : Ref sig .tc := ⟨.hbm, 47, rfl⟩
abbrev main_c_3 : Ref sig .tc := ⟨.hbm, 48, rfl⟩
abbrev main_v15 : Ref sig .tc := ⟨.hbm, 49, rfl⟩
abbrev main_v16 : Ref sig .tc := ⟨.hbm, 50, rfl⟩
abbrev main_c_4 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v17 : Ref sig .tc := ⟨.hbm, 72, rfl⟩
abbrev main_c_5 : Ref sig .tc := ⟨.hbm, 73, rfl⟩
abbrev main_v18 : Ref sig .tc := ⟨.hbm, 74, rfl⟩
abbrev main_v19 : Ref sig .tc := ⟨.hbm, 75, rfl⟩
abbrev main_c_6 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_7 : Ref sig .tc := ⟨.hbm, 82, rfl⟩
abbrev main_call3_v0 : Ref sig .tc := ⟨.hbm, 83, rfl⟩
abbrev main_call3_v1 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_cst_8 : Ref sig .tc := ⟨.hbm, 89, rfl⟩
abbrev main_v29 : Ref sig .tc := ⟨.hbm, 90, rfl⟩
abbrev main_c_9 : Ref sig .tc := ⟨.hbm, 91, rfl⟩
abbrev main_v30 : Ref sig .tc := ⟨.hbm, 92, rfl⟩
abbrev main_c_10 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_11 : Ref sig .tc := ⟨.hbm, 97, rfl⟩
abbrev main_v34 : Ref sig .tc := ⟨.hbm, 98, rfl⟩
abbrev main_c_12 : Ref sig .tc := ⟨.hbm, 99, rfl⟩
abbrev main_v35 : Ref sig .tc := ⟨.hbm, 100, rfl⟩
abbrev main_c_13 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39_0 : Ref sig .tc := ⟨.hbm, 105, rfl⟩
abbrev main_v39_1 : Ref sig .tc := ⟨.hbm, 106, rfl⟩
abbrev main_v39_2 : Ref sig .tc := ⟨.hbm, 107, rfl⟩
abbrev main_v39_3 : Ref sig .tc := ⟨.hbm, 108, rfl⟩
abbrev main_v39_4 : Ref sig .tc := ⟨.hbm, 109, rfl⟩
abbrev main_v39_5 : Ref sig .tc := ⟨.hbm, 110, rfl⟩
abbrev main_v39_6 : Ref sig .tc := ⟨.hbm, 111, rfl⟩
abbrev main_v39_7 : Ref sig .tc := ⟨.hbm, 112, rfl⟩
abbrev main_v39_8 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel4Ideal.lean ====
variable {F : FTy → Type} [FloatOps F] [Named F]
def κ : String → Option EReal := fun
  | "head_scale" => some (((Real.sqrt 128)⁻¹ : ℝ) : EReal)
  | "q_scale" => some (((8 * (Real.log 2))⁻¹ : ℝ) : EReal)
  | _ => none
-- ==== Reference4Ideal.lean ====
abbrev S65536x1024 : Shape := ⟨2, ![65536, 1024]⟩
abbrev S32x2048 : Shape := ⟨2, ![32, 2048]⟩
abbrev S2x1024 : Shape := ⟨2, ![2, 1024]⟩
abbrev S1024x4104 : Shape := ⟨2, ![1024, 4104]⟩
abbrev S4x1536 : Shape := ⟨2, ![4, 1536]⟩
abbrev S4 : Shape := ⟨1, ![4]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x4104 : Shape := ⟨2, ![65536, 4104]⟩
abbrev S65536x512 : Shape := ⟨2, ![65536, 512]⟩
abbrev S65536x1536 : Shape := ⟨2, ![65536, 1536]⟩
abbrev S65536x4 : Shape := ⟨2, ![65536, 4]⟩
abbrev S65536x8x64 : Shape := ⟨3, ![65536, 8, 64]⟩
abbrev S8 : Shape := ⟨1, ![8]⟩
abbrev S1x8 : Shape := ⟨2, ![1, 8]⟩
abbrev S65536x8 : Shape := ⟨2, ![65536, 8]⟩
abbrev S65536x1x8 : Shape := ⟨3, ![65536, 1, 8]⟩
abbrev S65536x8x8 : Shape := ⟨3, ![65536, 8, 8]⟩
abbrev S65536x8x48 : Shape := ⟨3, ![65536, 8, 48]⟩
abbrev S32x2048x1536 : Shape := ⟨3, ![32, 2048, 1536]⟩
abbrev S32x2051x1536 : Shape := ⟨3, ![32, 2051, 1536]⟩
abbrev S1x1536 : Shape := ⟨2, ![1, 1536]⟩
abbrev S1536 : Shape := ⟨1, ![1536]⟩
abbrev S1x1x1536 : Shape := ⟨3, ![1, 1, 1536]⟩
abbrev S65536x4x128 : Shape := ⟨3, ![65536, 4, 128]⟩
abbrev S65536x4x1 : Shape := ⟨3, ![65536, 4, 1]⟩

abbrev nBuf : Space → Nat
  | .hbm => 201
  | .vmem => 0
  | .smem => 0
  | _ => 0

abbrev hbmTy0_0 (i : Nat) : BufTy := match i % 128 with
  | 0 => ⟨S65536x1024, .f32⟩
  | 1 => ⟨S32x2048, .i32⟩
  | 2 => ⟨S2x1024, .f32⟩
  | 3 => ⟨S1024x4104, .f32⟩
  | 4 => ⟨S4x1536, .f32⟩
  | 5 => ⟨S4, .f32⟩
  | 6 => ⟨S4, .f32⟩
  | 7 => ⟨S1x1024, .f32⟩
  | 8 => ⟨S1024, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S65536x4104, .f32⟩
  | 26 => ⟨S65536x512, .f32⟩
  | 27 => ⟨S65536x512, .f32⟩
  | 28 => ⟨S65536x512, .f32⟩
  | 29 => ⟨S65536x512, .f32⟩
  | 30 => ⟨S65536x1536, .f32⟩
  | 31 => ⟨S65536x512, .f32⟩
  | 32 => ⟨S65536x4, .f32⟩
  | 33 => ⟨S65536x4, .f32⟩
  | 34 => ⟨S65536x8x64, .f32⟩
  | 35 => ⟨S65536, .i32⟩
  | 36 => ⟨S8, .f32⟩
  | 37 => ⟨S_, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S65536, .f32⟩
  | 48 => ⟨S65536x1, .f32⟩
  | 49 => ⟨S1x8, .f32⟩
  | 50 => ⟨S65536x8, .f32⟩
  | 51 => ⟨S65536x8, .f32⟩
  | 52 => ⟨S65536x8, .f32⟩
  | 53 => ⟨S65536x8, .f32⟩
  | 54 => ⟨S65536x1x8, .f32⟩
  | 55 => ⟨S65536x8, .f32⟩
  | 56 => ⟨S65536x1x8, .f32⟩
  | 57 => ⟨S65536x8x8, .f32⟩
  | 58 => ⟨S65536x8x8, .f32⟩
  | 59 => ⟨S65536x8x8, .f32⟩
  | 60 => ⟨S65536x8x8, .f32⟩
  | 61 => ⟨S65536x8x8, .f32⟩
  | 62 => ⟨S65536x8x8, .f32⟩
  | 63 => ⟨S65536x8x8, .f32⟩
  | 64 => ⟨S65536x8x8, .f32⟩
  | 65 => ⟨S65536x8x8, .f32⟩
  | 66 => ⟨S65536x8x8, .f32⟩
  | 67 => ⟨S65536x8x8, .f32⟩
  | 68 => ⟨S65536x8x8, .f32⟩
  | 69 => ⟨S65536x8x48, .f32⟩
  | 70 => ⟨S65536x8x64, .f32⟩
  | 71 => ⟨S65536x512, .f32⟩
  | 72 => ⟨S65536x8x64, .f32⟩
  | 73 => ⟨S65536, .i32⟩
  | 74 => ⟨S8, .f32⟩
  | 75 => ⟨S_, .f32⟩
  | 76 => ⟨S8, .f32⟩
  | 77 => ⟨S8, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S65536, .f32⟩
  | 86 => ⟨S65536x1, .f32⟩
  | 87 => ⟨S1x8, .f32⟩
  | 88 => ⟨S65536x8, .f32⟩
  | 89 => ⟨S65536x8, .f32⟩
  | 90 => ⟨S65536x8, .f32⟩
  | 91 => ⟨S65536x8, .f32⟩
  | 92 => ⟨S65536x1x8, .f32⟩
  | 93 => ⟨S65536x8, .f32⟩
  | 94 => ⟨S65536x1x8, .f32⟩
  | 95 => ⟨S65536x8x8, .f32⟩
  | 96 => ⟨S65536x8x8, .f32⟩
  | 97 => ⟨S65536x8x8, .f32⟩
  | 98 => ⟨S65536x8x8, .f32⟩
  | 99 => ⟨S65536x8x8, .f32⟩
  | 100 => ⟨S65536x8x8, .f32⟩
  | 101 => ⟨S65536x8x8, .f32⟩
  | 102 => ⟨S65536x8x8, .f32⟩
  | 103 => ⟨S65536x8x8, .f32⟩
  | 104 => ⟨S65536x8x8, .f32⟩
  | 105 => ⟨S65536x8x8, .f32⟩
  | 106 => ⟨S65536x8x8, .f32⟩
  | 107 => ⟨S65536x8x48, .f32⟩
  | 108 => ⟨S65536x8x64, .f32⟩
  | 109 => ⟨S65536x512, .f32⟩
  | 110 => ⟨S_, .f32⟩
  | 111 => ⟨S_, .f32⟩
  | 112 => ⟨S_, .f32⟩
  | 113 => ⟨S_, .f32⟩
  | 114 => ⟨S65536x512, .f32⟩
  | 115 => ⟨S65536x512, .f32⟩
  | 116 => ⟨S32x2048x1536, .f32⟩
  | 117 => ⟨S_, .i32⟩
  | 118 => ⟨S_, .f32⟩
  | 119 => ⟨S32x2051x1536, .f32⟩
  | 120 => ⟨S1x1536, .f32⟩
  | 121 => ⟨S1536, .f32⟩
  | 122 => ⟨S32x2048x1536, .f32⟩
  | 123 => ⟨S1x1x1536, .f32⟩
  | 124 => ⟨S32x2048x1536, .f32⟩
  | 125 => ⟨S32x2048x1536, .f32⟩
  | 126 => ⟨S_, .f32⟩
  | 127 => ⟨S32x2048x1536, .f32⟩
  | _ => ⟨S65536x1024, .f32⟩

abbrev hbmTy0_1 (i : Nat) : BufTy := match i % 128 with
  | 0 => ⟨S32x2048x1536, .f32⟩
  | 1 => ⟨S1x1536, .f32⟩
  | 2 => ⟨S1536, .f32⟩
  | 3 => ⟨S32x2048x1536, .f32⟩
  | 4 => ⟨S1x1x1536, .f32⟩
  | 5 => ⟨S32x2048x1536, .f32⟩
  | 6 => ⟨S32x2048x1536, .f32⟩
  | 7 => ⟨S32x2048x1536, .f32⟩
  | 8 => ⟨S1x1536, .f32⟩
  | 9 => ⟨S1536, .f32⟩
  | 10 => ⟨S32x2048x1536, .f32⟩
  | 11 => ⟨S1x1x1536, .f32⟩
  | 12 => ⟨S32x2048x1536, .f32⟩
  | 13 => ⟨S32x2048x1536, .f32⟩
  | 14 => ⟨S32x2048x1536, .f32⟩
  | 15 => ⟨S1x1536, .f32⟩
  | 16 => ⟨S1536, .f32⟩
  | 17 => ⟨S32x2048x1536, .f32⟩
  | 18 => ⟨S1x1x1536, .f32⟩
  | 19 => ⟨S32x2048x1536, .f32⟩
  | 20 => ⟨S32x2048x1536, .f32⟩
  | 21 => ⟨S32x2048x1536, .f32⟩
  | 22 => ⟨S32x2048x1536, .f32⟩
  | 23 => ⟨S32x2048x1536, .f32⟩
  | 24 => ⟨S_, .f32⟩
  | 25 => ⟨S32x2048x1536, .f32⟩
  | 26 => ⟨S32x2048x1536, .f32⟩
  | 27 => ⟨S_, .f32⟩
  | 28 => ⟨S32x2048x1536, .f32⟩
  | 29 => ⟨S32x2048x1536, .f32⟩
  | 30 => ⟨S32x2048x1536, .f32⟩
  | 31 => ⟨S65536x1536, .f32⟩
  | 32 => ⟨S65536x512, .f32⟩
  | 33 => ⟨S65536x512, .f32⟩
  | 34 => ⟨S65536x512, .f32⟩
  | 35 => ⟨S65536x4x128, .f32⟩
  | 36 => ⟨S65536x4x128, .f32⟩
  | 37 => ⟨S_, .f32⟩
  | 38 => ⟨S65536x4, .f32⟩
  | 39 => ⟨S65536x4x1, .f32⟩
  | 40 => ⟨S_, .f32⟩
  | 41 => ⟨S65536x4x1, .f32⟩
  | 42 => ⟨S65536x4x1, .f32⟩
  | 43 => ⟨S65536x4x1, .f32⟩
  | 44 => ⟨S65536x4x128, .f32⟩
  | 45 => ⟨S65536x4x128, .f32⟩
  | 46 => ⟨S_, .f32⟩
  | 47 => ⟨S_, .f32⟩
  | 48 => ⟨S_, .f32⟩
  | 49 => ⟨S_, .f32⟩
  | 50 => ⟨S65536x4x128, .f32⟩
  | 51 => ⟨S65536x4x128, .f32⟩
  | 52 => ⟨S65536x512, .f32⟩
  | 53 => ⟨S65536x4x128, .f32⟩
  | 54 => ⟨S65536x4x128, .f32⟩
  | 55 => ⟨S_, .f32⟩
  | 56 => ⟨S65536x4, .f32⟩
  | 57 => ⟨S65536x4x1, .f32⟩
  | 58 => ⟨S_, .f32⟩
  | 59 => ⟨S65536x4x1, .f32⟩
  | 60 => ⟨S65536x4x1, .f32⟩
  | 61 => ⟨S65536x4x1, .f32⟩
  | 62 => ⟨S65536x4x128, .f32⟩
  | 63 => ⟨S65536x4x128, .f32⟩
  | 64 => ⟨S65536x512, .f32⟩
  | 65 => ⟨S65536x512, .bf16⟩
  | 66 => ⟨S65536x512, .bf16⟩
  | 67 => ⟨S65536x512, .bf16⟩
  | 68 => ⟨S65536x512, .bf16⟩
  | 69 => ⟨S65536x512, .bf16⟩
  | 70 => ⟨S65536x512, .bf16⟩
  | 71 => ⟨S65536x512, .bf16⟩
  | 72 => ⟨S65536x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_8 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_c : Ref sig .tc := ⟨.hbm, 117, rfl⟩
abbrev main_call0_v0 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_call1_v0 : Ref sig .tc := ⟨.hbm, 150, rfl⟩
abbrev main_call1_v1 : Ref sig .tc := ⟨.hbm, 151, rfl⟩
abbrev main_call1_cst : Ref sig .tc := ⟨.hbm, 152, rfl⟩
abbrev main_call1_v2 : Ref sig .tc := ⟨.hbm, 153, rfl⟩
abbrev main_call1_v3 : Ref sig .tc := ⟨.hbm, 154, rfl⟩
abbrev main_call1_cst_0 : Ref sig .tc := ⟨.hbm, 155, rfl⟩
abbrev main_call1_v4 : Ref sig .tc := ⟨.hbm, 156, rfl⟩
abbrev main_call1_v5 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_11 : Ref sig .tc := ⟨.hbm, 165, rfl⟩
abbrev main_v136 : Ref sig .tc := ⟨.hbm, 166, rfl⟩
abbrev main_v137 : Ref sig .tc := ⟨.hbm, 167, rfl⟩
abbrev main_cst_12 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_13 : Ref sig .tc := ⟨.hbm, 174, rfl⟩
abbrev main_v143 : Ref sig .tc := ⟨.hbm, 175, rfl⟩
abbrev main_cst_14 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_15 : Ref sig .tc := ⟨.hbm, 183, rfl⟩
abbrev main_v150 : Ref sig .tc := ⟨.hbm, 184, rfl⟩
abbrev main_v151 : Ref sig .tc := ⟨.hbm, 185, rfl⟩
abbrev main_cst_16 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩

abbrev nD : Nat := 1
abbrev τ : Topo := Topo.v7x

variable {F : FTy → Type} [FloatOps F]
-- ==== Proof.Pay.lean ====
/-
  What the attention kernel does with one block of 512 queries of a pair of heads, in four steps named after what they
  do: the scores of a block of keys (the two heads' score matrices stacked), the running maximum, the running sums (the
  values' 128 lanes, then 128 lanes of ones), and the closing division and gate. Each is read at an index, and the four
  stored blocks are shown to be the chains of these steps.
-/
module

public import proofs.«01_k».proof.Proof.Gen.KernelIdeal.Skeleton
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe
open scoped BigOperators

/-- Scores of one head pair, a bias row added to the matrix product. -/
def biased (p : FVec Ideal S512x512 .f32) (c : FVec Ideal S1x1x1x512 .f32) : FVec Ideal S512x512 .f32 :=
  addf p (broadcastTo S512x512 (mulf (shapeCast S1x512 c shapeCasts_S1x1x1x512_S1x512) (broadcast S1x512 (Named.named κ "neg_log2e" 0xBFB8AA3B#32)))
    broadcasts_S1x512_S512x512)

/-- The scores of 512 queries against 512 keys, first head's above second head's. -/
def score (q k : FVec Ideal S1x512x128 .bf16) (ca cb : FVec Ideal S1x1x1x512 .f32) : FVec Ideal S1024x512 .f32 :=
  concatenate S1024x512 0 [⟨S512x512, k0_pay16 k0_pay2 q k ca⟩, ⟨S512x512, biased (k0_pay15 k0_pay2 q k) cb⟩] concatenates_S512x512_S512x512_S1024x512_d0

/-- The same on the diagonal: keys after the query are at `-∞`. -/
def scoreDiag (q k : FVec Ideal S1x512x128 .bf16) (ca cb : FVec Ideal S1x1x1x512 .f32) : FVec Ideal S1024x512 .f32 :=
  concatenate S1024x512 0
    [⟨S512x512, select k0_pay3 (k0_pay16 k0_pay2 q k ca) (broadcast S512x512 (Scalar.ofBits .f32 0xFF800000#32))⟩,
      ⟨S512x512, select k0_pay3 (biased (k0_pay15 k0_pay2 q k) cb) (broadcast S512x512 (Scalar.ofBits .f32 0xFF800000#32))⟩]
    concatenates_S512x512_S512x512_S1024x512_d0

/-- The running maximum after a block's scores. -/
def maxNext (m : FVec Ideal S1024x1 .f32) (s : FVec Ideal S1024x512 .f32) : FVec Ideal S1024x1 .f32 :=
  maximumf m (shapeCast S1024x1 (multiReduction .maximumf [1] S1024 s 0xFF800000#32 reduces_S1024x512_S1024 (.inl rfl) rfl) shapeCasts_S1024_S1024x1)

/-- The running sums after a block's scores and values, at the new maximum `m'`. -/
def sumNext (m m' : FVec Ideal S1024x1 .f32) (a : FVec Ideal S1024x256 .f32) (s : FVec Ideal S1024x512 .f32)
    (v : FVec Ideal S1x512x128 .bf16) : FVec Ideal S1024x256 .f32 :=
  addf (mulf (broadcastTo S1024x256 (exp2 (subf m m')) broadcasts_S1024x1_S1024x256) a)
    (matmul (dot_S1024x512_S512x256_S1024x256_1_0_0_1_n_n) none
      (truncf .bf16 (exp2 (subf s (broadcastTo S1024x512 m' broadcasts_S1024x1_S1024x512))) bitsLt_bf16_f32 : FVec Ideal S1024x512 .bf16)
      (concatenate S512x256 1
        [⟨S512x128, (shapeCast S512x128 v shapeCasts_S1x512x128_S512x128 : FVec Ideal S512x128 .bf16)⟩,
          ⟨S512x128, (broadcast S512x128 (Scalar.ofBits .bf16 0x3F80#16) : FVec Ideal S512x128 .bf16)⟩] concatenates_S512x128_S512x128_S512x256_d1)
      (constant S1024x256 .f32 0x00000000#32))

/-- The closing division of each head's sums by its weights' sum, each head's own lanes kept. -/
def quotient (a : FVec Ideal S1024x256 .f32) : FVec Ideal S512x128 .f32 :=
  have l : FVec Ideal S1024x1 .f32 := extractStridedSlice S1024x1 ![0, 128] a slices_S1024x256_o0_128_S1024x1
  have u : FVec Ideal S1024x128 .f32 := extractStridedSlice S1024x128 ![0, 0] a slices_S1024x256_o0_0_S1024x128
  select (broadcastTo S512x128 (shapeCast S1x128 (k0_pay2) shapeCasts_S1x128_S1x128) broadcasts_S1x128_S512x128)
    (divf (extractStridedSlice S512x128 ![0, 0] u slices_S1024x128_o0_0_S512x128)
      (broadcastTo S512x128 (extractStridedSlice S512x1 ![0, 0] l slices_S1024x1_o0_0_S512x1) broadcasts_S512x1_S512x128))
    (divf (extractStridedSlice S512x128 ![512, 0] u slices_S1024x128_o512_0_S512x128)
      (broadcastTo S512x128 (extractStridedSlice S512x1 ![512, 0] l slices_S1024x1_o512_0_S512x1) broadcasts_S512x1_S512x128))

/-- The gate: the quotient times `z · logistic z`. -/
def gated (u : FVec Ideal S512x128 .f32) (z : FVec Ideal S1x512x128 .bf16) : FVec Ideal S1x512x128 .bf16 :=
  k0_pay49 u (k0_pay48 z)

/-- The running state: maxima and sums. -/
abbrev St : Type := FVec Ideal S1024x1 .f32 × FVec Ideal S1024x256 .f32

def st0 : St := (k0_pay4, k0_pay5)

/-- One block of keys taken into the state, its scores given. -/
def take (st : St) (s : FVec Ideal S1024x512 .f32) (v : FVec Ideal S1x512x128 .bf16) : St :=
  (maxNext st.1 s, sumNext st.1 (maxNext st.1 s) st.2 s v)

variable (q k0 k1 k2 k3 v0 v1 v2 v3 z : FVec Ideal S1x512x128 .bf16) (a0 a1 a2 a3 b0 b1 b2 b3 : FVec Ideal S1x1x1x512 .f32)

def block0 : FVec Ideal S1x512x128 .bf16 := gated (quotient (take st0 (scoreDiag q k0 a0 b0) v0).2) z

def block1 : FVec Ideal S1x512x128 .bf16 :=
  gated (quotient (take (take st0 (score q k0 a0 b0) v0) (scoreDiag q k1 a1 b1) v1).2) z

def block2 : FVec Ideal S1x512x128 .bf16 :=
  gated (quotient (take (take (take st0 (score q k0 a0 b0) v0) (score q k1 a1 b1) v1) (scoreDiag q k2 a2 b2) v2).2) z

def block3 : FVec Ideal S1x512x128 .bf16 :=
  gated (quotient (take (take (take (take st0 (score q k0 a0 b0) v0) (score q k1 a1 b1) v1) (score q k2 a2 b2) v2) (scoreDiag q k3 a3 b3) v3).2) z

theorem stored0 :
    k0_pay10 (F := Ideal) (k0_pay9 k0_pay2 k0_pay3 k0_pay4 k0_pay5 (k0_pay7 q k0) (k0_pay8 q k0 a0) b0 v0 z) = block0 q k0 v0 z a0 b0 := rfl

theorem stored1 :
    k0_pay26 (F := Ideal)
      (k0_pay25 k0_pay2 k0_pay3
        (k0_pay20 k0_pay12 (k0_pay15 k0_pay2 q k0) (k0_pay16 k0_pay2 q k0 a0) (k0_pay17 b0) k0_pay18)
        (k0_pay21 k0_pay12 k0_pay13 (k0_pay15 k0_pay2 q k0) (k0_pay16 k0_pay2 q k0 a0) (k0_pay17 b0) k0_pay18 v0)
        (k0_pay23 (k0_pay11 k0_pay2 q) k1) (k0_pay24 (k0_pay11 k0_pay2 q) k1 a1) b1 v1 z) = block1 q k0 k1 v0 v1 z a0 a1 b0 b1 := rfl

theorem stored2 :
    k0_pay49 (F := Ideal)
      (k0_pay47 k0_pay2 k0_pay3
        (k0_pay42 (k0_pay36 k0_pay28 (k0_pay31 k0_pay2 q k0) (k0_pay32 k0_pay2 q k0 a0) (k0_pay33 b0) k0_pay34)
          (k0_pay39 (k0_pay27 k0_pay2 q) k1) (k0_pay40 (k0_pay27 k0_pay2 q) k1 a1) b1)
        (k0_pay43 (k0_pay36 k0_pay28 (k0_pay31 k0_pay2 q k0) (k0_pay32 k0_pay2 q k0 a0) (k0_pay33 b0) k0_pay34)
          (k0_pay37 k0_pay28 k0_pay29 (k0_pay31 k0_pay2 q k0) (k0_pay32 k0_pay2 q k0 a0) (k0_pay33 b0) k0_pay34 v0)
          (k0_pay39 (k0_pay27 k0_pay2 q) k1) (k0_pay40 (k0_pay27 k0_pay2 q) k1 a1) b1 v1)
        (k0_pay45 (k0_pay27 k0_pay2 q) k2) (k0_pay46 (k0_pay27 k0_pay2 q) k2 a2) b2 v2) (k0_pay48 z)
      = block2 q k0 k1 k2 v0 v1 v2 z a0 a1 a2 b0 b1 b2 := rfl

end Cert.KernelIdeal.Fox

end
-- ==== Proof.PayAt.lean ====
/-
  The steps of `Pay` read at an index: a row `512 h + r` of the stacked matrices is query `r` of the pair's head `h`.
-/
module

public import proofs.«01_k».proof.Proof.Pay
public import Idealize.ShloMosaic.Lib.WordCmp

@[expose] public section

set_option maxRecDepth 16384

noncomputable section

namespace Cert.KernelIdeal.Fox

open Cert.KernelIdeal Cert.KernelIdeal.Gen Idealize.ShloMosaic Idealize.ShloMosaic.TcCoe
open scoped BigOperators

theorem neg_infinity : Ideal.ofBits .f32 0xFF800000#32 = ⊥ := by
  simp [Ideal.ofBits, Ideal.ieee]

theorem select_lane {α : Type} (a : ℕ) (ha : a < 128) (x y : α) :
    Scalar.select (IntOp.cmpi .slt (BitVec.ofNat 32 a) 64#32) x y = if a < 64 then x else y := by
  rw [show (64#32 : BitVec 32) = BitVec.ofNat 32 64 from rfl, WordCmp.cmpi_slt_ofNat (by omega) (by omega), WordCmp.select_ofBool]
  simp only [decide_eq_true_eq]

theorem select_causal {α : Type} (a b : ℕ) (ha : a < 512) (hb : b < 512) (x y : α) :
    Scalar.select (IntOp.cmpi .sle (BitVec.ofNat 32 a) (BitVec.ofNat 32 b)) x y = if a ≤ b then x else y := by
  rw [WordCmp.cmpi_sle_ofNat (by omega) (by omega), WordCmp.select_ofBool]
  simp only [decide_eq_true_eq]

theorem take_max (st : St) (s : FVec Ideal S1024x512 .f32) (v : FVec Ideal S1x512x128 .bf16) (R : Fin 1024) :
    (take st s v).1 (ix2 R 0) = max (st.1 (ix2 R 0)) (Finset.univ.fold max ⊥ fun k => s (ix2 R k)) := by
  pointwise [take, maxNext]
  rw [neg_infinity]

theorem take_sum (st : St) (s : FVec Ideal S1024x512 .f32) (v : FVec Ideal S1x512x128 .bf16) (R : Fin 1024) (l : Fin 256) :
    (take st s v).2 (ix2 R l) = Ideal.exp2 (st.1 (ix2 R 0) - (take st s v).1 (ix2 R 0)) * st.2 (ix2 R l)
      + ∑ k : Fin 512, Ideal.exp2 (s (ix2 R k) - (take st s v).1 (ix2 R 0)) * (if h : l.val < 128 then v (ix3 0 k ⟨l.val, h⟩) else 1) := by
  show sumNext st.1 (take st s v).1 st.2 s v (ix2 R l) = _
  generalize (take st s v).1 = m'
  pointwise [sumNext]
  rfl

theorem quotient_apply (a : FVec Ideal S1024x256 .f32) (r : Fin 512) (l : Fin 128) :
    quotient a (ix2 r l) = if l.val < 64 then Ideal.div (a (ix2 ⟨r.val, by omega⟩ ⟨l.val, by omega⟩)) (a (ix2 ⟨r.val, by omega⟩ 128))
      else Ideal.div (a (ix2 ⟨512 + r.val, by omega⟩ ⟨l.val, by omega⟩)) (a (ix2 ⟨512 + r.val, by omega⟩ 128)) := by
  pointwise [quotient, k0_pay2]
  exact select_lane _ l.isLt _ _

theorem gated_apply (u : FVec Ideal S512x128 .f32) (z : FVec Ideal S1x512x128 .bf16) (r : Fin 512) (l : Fin 128) :
    gated u z (ix3 0 r l) = u (ix2 r l) * (z (ix3 0 r l) * Ideal.logistic (z (ix3 0 r l))) := by
  pointwise [gated, k0_pay49, k0_pay48]

theorem st0_max (R : Fin 1024) : st0.1 (ix2 R 0) = ⊥ := by
  pointwise [st0, k0_pay4]
  exact neg_infinity

theorem st0_sum (R : Fin 1024) (l : Fin 256) : st0.2 (ix2 R l) = 0 := by
  pointwise [st0, k0_pay5]

theorem biased_apply (p : FVec Ideal S512x512 .f32) (c : FVec Ideal S1x1x1x512 .f32) (r k : Fin 512) :
    biased p c (ix2 r k) = p (ix2 r k) + c (ix4 0 0 0 k) * ((-((Real.log 2)⁻¹) : ℝ) : EReal) := by
  pointwise [biased]
  rfl

theorem first_apply (q k : FVec Ideal S1x512x128 .bf16) (c : FVec Ideal S1x1x1x512 .f32) (r j : Fin 512) :
    k0_pay16 (F := Ideal) k0_pay2 q k c (ix2 r j) = (∑ d : Fin 64, q (ix3 0 r ⟨d.val, by omega⟩) * k (ix3 0 j ⟨d.val, by omega⟩))
      + c (ix4 0 0 0 j) * ((-((Real.log 2)⁻¹) : ℝ) : EReal) := by
  pointwise [k0_pay16, k0_pay15, k0_pay14, k0_pay11, k0_pay2]
  rw [Finset.sum_congr rfl fun d _ => select_lane _ d.isLt _ _, Fin.sum_univ_two_halves 64 64 rfl]
  refine congrArg₂ (· + ·) ?_ rfl
  simp

theorem second_apply (q k : FVec Ideal S1x512x128 .bf16) (r j : Fin 512) :
    k0_pay15 (F := Ideal) k0_pay2 q k (ix2 r j) = (∑ d : Fin 64, q (ix3 0 r ⟨64 + d.val, by omega⟩) * k (ix3 0 j ⟨64 + d.val, by omega⟩)) := by
  pointwise [k0_pay15, k0_pay14, k0_pay11, k0_pay2]
  rw [Finset.sum_congr rfl fun d _ => select_lane _ d.isLt _ _, Fin.sum_univ_two_halves 64 64 rfl]
  simp

theorem causal_apply (p : FVec Ideal S512x512 .f32) (r j : Fin 512) :
    select k0_pay3 p (broadcast S512x512 (Scalar.ofBits .f32 0xFF800000#32)) (ix2 r j) = if j.val ≤ r.val then p (ix2 r j) else ⊥ := by
  pointwise [k0_pay3]
  rw [neg_infinity]
  exact select_causal _ _ j.isLt r.isLt _ _

end Cert.KernelIdeal.Fox
end
-- ==== Proof.Softmax.lean ====
/-
  Softmax weights of real logits, over the extended reals: the textbook quotient, the same quotient from logits all
  shifted by one constant, and the running form in base two, which takes the keys a block at a time and rescales what it
  has summed whenever the running maximum moves. The values weighed may be any extended reals.
-/
module

public import Idealize.ShloMosaic.PureOps.Ideal

@[expose] public section

noncomputable section

namespace Cert.Softmax

open Idealize.ShloMosaic
open scoped BigOperators

/-- `e` to a real logit, as an extended real. -/
abbrev ew (a : ℝ) : EReal := ((Real.exp a : ℝ) : EReal)

/-- The weighted sum of `w` under the softmax of the real logits `y`, keys `0 … n-1`. -/
def soft (y : ℕ → ℝ) (w : ℕ → EReal) (n : ℕ) : EReal :=
  ∑ k ∈ Finset.range n, (((Real.exp (y k) / ∑ j ∈ Finset.range n, Real.exp (y j) : ℝ)) : EReal) * w k

theorem exp2_real (a : ℝ) : Ideal.exp2 (a : EReal) = ew (Real.log 2 * a) := by
  rw [Ideal.exp2_coe]
  exact congrArg _ (Real.rpow_def_of_pos (by norm_num) a)

theorem coe_nonneg_mul_sum {ι : Type} (s : Finset ι) (a : ℝ) (ha : 0 ≤ a) (f : ι → EReal) :
    (a : EReal) * ∑ k ∈ s, f k = ∑ k ∈ s, (a : EReal) * f k := by
  classical
  refine Finset.induction_on s (by simp) fun i s hi ih => ?_
  rw [Finset.sum_insert hi, Finset.sum_insert hi, EReal.left_distrib_of_nonneg_of_ne_top (by exact_mod_cast ha) (EReal.coe_ne_top a), ih]

theorem coe_sum {ι : Type} (s : Finset ι) (f : ι → ℝ) : ∑ k ∈ s, ((f k : ℝ) : EReal) = ((∑ k ∈ s, f k : ℝ) : EReal) := by
  classical
  refine Finset.induction_on s (by simp) fun i s hi ih => ?_
  rw [Finset.sum_insert hi, Finset.sum_insert hi, ih, EReal.coe_add]

theorem div_coe_pos (x : EReal) (l : ℝ) (hl : 0 < l) : Ideal.div x (l : EReal) = ((l⁻¹ : ℝ) : EReal) * x := by
  unfold Ideal.div
  rw [if_neg (by exact_mod_cast hl.ne'), mul_comm, EReal.coe_inv]

theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem scale : Ideal.div ((1 / 8 : ℝ) : EReal) (Ideal.log ((2 : ℝ) : EReal)) = ((1 / 8 / Real.log 2 : ℝ) : EReal) := by
  have h2 : 0 < Real.log 2 := Real.log_pos (by norm_num)
  rw [Ideal.log_coe, if_neg (by norm_num), div_coe_pos _ _ h2, ← EReal.coe_mul, mul_comm, ← div_eq_mul_inv]

/-- The quotient of the two sums of a shifted numerator is the softmax's weighted sum: the shift cancels. -/
theorem soft_of_shift (y : ℕ → ℝ) (w : ℕ → EReal) (n : ℕ) (hn : 0 < n) (d : ℝ) :
    Ideal.div (∑ k ∈ Finset.range n, ew (y k + d) * w k) (∑ k ∈ Finset.range n, ew (y k + d) * 1) = soft y w n := by
  have hpos : 0 < ∑ k ∈ Finset.range n, Real.exp (y k + d) :=
    Finset.sum_pos (fun k _ => Real.exp_pos _) ⟨0, Finset.mem_range.mpr hn⟩
  simp only [mul_one]
  rw [show (∑ k ∈ Finset.range n, ew (y k + d)) = ((∑ k ∈ Finset.range n, Real.exp (y k + d) : ℝ) : EReal) from coe_sum _ _,
    div_coe_pos _ _ hpos, coe_nonneg_mul_sum _ _ (inv_nonneg.mpr hpos.le)]
  refine Finset.sum_congr rfl fun k _ => ?_
  rw [← mul_assoc, ← EReal.coe_mul]
  congr 2
  have h : ∑ j ∈ Finset.range n, Real.exp (y j + d) = (∑ j ∈ Finset.range n, Real.exp (y j)) * Real.exp d := by
    rw [Finset.sum_mul]; exact Finset.sum_congr rfl fun j _ => Real.exp_add _ _
  have h2 : (∑ j ∈ Finset.range n, Real.exp (y j)) ≠ 0 :=
    (Finset.sum_pos (fun k _ => Real.exp_pos _) ⟨0, Finset.mem_range.mpr hn⟩).ne'
  rw [h, Real.exp_add]
  have := Real.exp_ne_zero d
  field_simp

/-- The greatest of finitely many extended reals, none of them `+∞` and one of them real, is real. -/
theorem fold_max_real {n : ℕ} (s : Fin n → EReal) (m : EReal) (hm : m ≠ ⊤) (hs : ∀ k, s k ≠ ⊤)
    (h : m ≠ ⊥ ∨ ∃ k, s k ≠ ⊥) : ∃ μ : ℝ, max m ((Finset.univ : Finset (Fin n)).fold max ⊥ s) = (μ : EReal) := by
  have hf : (Finset.univ : Finset (Fin n)).fold max ⊥ s = Finset.univ.sup s := rfl
  rw [hf]
  have ht : max m (Finset.univ.sup s) ≠ ⊤ := by
    intro e
    have h1 : Finset.univ.sup s < ⊤ := (Finset.sup_lt_iff (bot_lt_top)).mpr fun k _ => lt_top_iff_ne_top.mpr (hs k)
    exact absurd e (max_lt (lt_top_iff_ne_top.mpr hm) h1).ne
  have hb : max m (Finset.univ.sup s) ≠ ⊥ := by
    intro e
    have h1 := (max_eq_bot.mp e)
    rcases h with h | ⟨k, hk⟩
    · exact h h1.1
    · exact hk (le_bot_iff.mp (h1.2 ▸ Finset.le_sup (f := s) (Finset.mem_univ k)))
  exact ⟨_, (EReal.coe_toReal ht hb).symm⟩

/-- The running state after `n` keys: the running maximum `m` and one running sum `a`, over the values `w`. Before the
    first key the maximum is `-∞` and the sum nothing; after it the maximum is a real `μ`, and the sum is taken at
    logits shifted by it. -/
def Running (y : ℕ → ℝ) (w : ℕ → EReal) (n : ℕ) (m a : EReal) : Prop :=
  (n = 0 ∧ m = ⊥ ∧ a = 0) ∨
    ∃ μ : ℝ, m = (μ : EReal) ∧ a = ∑ k ∈ Finset.range n, ew (y k - Real.log 2 * μ) * w k

theorem running_zero (y : ℕ → ℝ) (w : ℕ → EReal) : Running y w 0 ⊥ 0 := Or.inl ⟨rfl, rfl, rfl⟩

theorem Running.ne_top {y : ℕ → ℝ} {w : ℕ → EReal} {n : ℕ} {m a : EReal} (h : Running y w n m a) : m ≠ ⊤ := by
  rcases h with ⟨_, rfl, _⟩ | ⟨μ, rfl, _⟩
  · exact bot_ne_top
  · exact EReal.coe_ne_top μ

/-- Rescaling the running sum to a new real maximum. -/
theorem Running.rescale {y : ℕ → ℝ} {w : ℕ → EReal} {n : ℕ} {m a : EReal} (h : Running y w n m a) (μ' : ℝ) :
    Ideal.exp2 (m - (μ' : EReal)) * a = ∑ k ∈ Finset.range n, ew (y k - Real.log 2 * μ') * w k := by
  rcases h with ⟨rfl, rfl, rfl⟩ | ⟨μ, rfl, rfl⟩
  · simp
  · rw [← EReal.coe_sub, exp2_real, coe_nonneg_mul_sum _ _ (Real.exp_pos _).le]
    refine Finset.sum_congr rfl fun k _ => ?_
    rw [← mul_assoc, ← EReal.coe_mul, ← Real.exp_add]
    congr 3; ring

/-- A score at a real maximum: the weight of a key that is seen, nothing of one that is not. -/
theorem exp2_score (b : ℝ) (μ' : ℝ) : Ideal.exp2 (((b / Real.log 2 : ℝ) : EReal) - (μ' : EReal)) = ew (b - Real.log 2 * μ') := by
  rw [← EReal.coe_sub, exp2_real]
  have h2 : Real.log 2 ≠ 0 := (Real.log_pos (by norm_num)).ne'
  congr 2; field_simp

/-- One block of `N` keys taken, the first `c` of them seen (`0 < c`), the others at score `-∞`. -/
theorem Running.block {y : ℕ → ℝ} {w : ℕ → EReal} {n : ℕ} {m a : EReal} (h : Running y w n m a) {N : ℕ} (c : ℕ) (hc : 0 < c)
    (hN : c ≤ N) (s u : Fin N → EReal)
    (hs : ∀ k : Fin N, s k = if k.val < c then ((y (n + k.val) / Real.log 2 : ℝ) : EReal) else ⊥)
    (hu : ∀ k : Fin N, k.val < c → u k = w (n + k.val))
    {m' : EReal} (hm' : m' = max m ((Finset.univ : Finset (Fin N)).fold max ⊥ s)) :
    Running y w (n + c) m' (Ideal.exp2 (m - m') * a + ∑ k : Fin N, Ideal.exp2 (s k - m') * u k) := by
  obtain ⟨μ', hμ⟩ := fold_max_real s m h.ne_top
    (fun k => by rw [hs]; split_ifs; exacts [EReal.coe_ne_top _, bot_ne_top])
    (Or.inr ⟨⟨0, by omega⟩, by rw [hs, if_pos hc]; exact EReal.coe_ne_bot _⟩)
  rw [← hm'] at hμ
  refine Or.inr ⟨μ', hμ, ?_⟩
  rw [hμ, h.rescale μ', Finset.sum_range_add]
  congr 1
  rw [← Fin.sum_univ_eq_sum_range (fun k => ew (y (n + k) - Real.log 2 * μ') * w (n + k)) c]
  obtain ⟨e, rfl⟩ := Nat.exists_eq_add_of_le hN
  rw [Fin.sum_univ_add]
  have hz : ∑ k : Fin e, Ideal.exp2 (s (Fin.natAdd c k) - (μ' : EReal)) * u (Fin.natAdd c k) = 0 := by
    refine Finset.sum_eq_zero fun k _ => ?_
    rw [hs, if_neg (by simp)]
    simp
  rw [hz, add_zero]
  refine Finset.sum_congr rfl fun k _ => ?_
  rw [hs, if_pos (by simp), hu _ (by simp), Fin.val_castAdd, exp2_score]

/-- The running state's two sums, one over the values and one over ones, give the softmax's weighted sum. -/
theorem soft_of_running {y : ℕ → ℝ} {w : ℕ → EReal} {n : ℕ} {m a l : EReal} (hn : 0 < n) (ha : Running y w n m a)
    (hl : Running y (fun _ => 1) n m l) : Ideal.div a l = soft y w n := by
  rcases ha with ⟨h0, _⟩ | ⟨μ, rfl, rfl⟩
  · omega
  · rcases hl with ⟨h0, _⟩ | ⟨μ', e, rfl⟩
    · omega
    · obtain rfl : μ = μ' := EReal.coe_injective e
      simp only [sub_eq_add_neg]
      exact soft_of_shift y w n hn _

/-- The textbook form over `N` keys of which the first `c` are seen, logits shifted by `d` and all others `-∞`: subtract
    the greatest, exponentiate, divide by the sum, weigh. -/
theorem soft_of_textbook {N : ℕ} (y : ℕ → ℝ) (w : ℕ → EReal) (c : ℕ) (hc : 0 < c) (hN : c ≤ N) (d : ℝ)
    (x u : Fin N → EReal) (hx : ∀ k : Fin N, x k = if k.val < c then ((y k.val + d : ℝ) : EReal) else ⊥)
    (hu : ∀ k : Fin N, k.val < c → u k = w k.val) {X : EReal}
    (hX : X = max ⊥ ((Finset.univ : Finset (Fin N)).fold max ⊥ x)) :
    ∑ k : Fin N, u k * Ideal.div (Ideal.exp (x k - X)) (0 + ∑ j : Fin N, Ideal.exp (x j - X)) = soft y w c := by
  obtain ⟨μ, hμ⟩ := fold_max_real x ⊥ bot_ne_top
    (fun k => by rw [hx]; split_ifs; exacts [EReal.coe_ne_top _, bot_ne_top])
    (Or.inr ⟨⟨0, by omega⟩, by rw [hx, if_pos hc]; exact EReal.coe_ne_bot _⟩)
  rw [← hX] at hμ
  subst hμ
  have he : ∀ k : Fin N, Ideal.exp (x k - (μ : EReal)) = if k.val < c then ew (y k.val + (d - μ)) else 0 := by
    intro k
    rw [hx]
    split_ifs
    · rw [← EReal.coe_sub, Ideal.exp_coe]; congr 2; ring
    · simp
  obtain ⟨e, rfl⟩ := Nat.exists_eq_add_of_le hN
  have hden : (0 : EReal) + ∑ j : Fin (c + e), Ideal.exp (x j - (μ : EReal)) = ∑ k ∈ Finset.range c, ew (y k + (d - μ)) * 1 := by
    rw [zero_add, Fin.sum_univ_add, ← Fin.sum_univ_eq_sum_range (fun k => ew (y k + (d - μ)) * 1) c]
    rw [show ∑ k : Fin e, Ideal.exp (x (Fin.natAdd c k) - (μ : EReal)) = 0 from
      Finset.sum_eq_zero fun k _ => by rw [he, if_neg (by simp)], add_zero]
    exact Finset.sum_congr rfl fun k _ => by rw [he, if_pos (by simp), mul_one, Fin.val_castAdd]
  rw [hden]
  have hpos : 0 < ∑ k ∈ Finset.range c, Real.exp (y k + (d - μ)) :=
    Finset.sum_pos (fun k _ => Real.exp_pos _) ⟨0, Finset.mem_range.mpr hc⟩
  have hd : ∑ k ∈ Finset.range c, ew (y k + (d - μ)) * 1 = ((∑ k ∈ Finset.range c, Real.exp (y k + (d - μ)) : ℝ) : EReal) := by
    simp only [mul_one]; exact coe_sum _ _
  rw [← soft_of_shift y w c hc (d - μ), hd, div_coe_pos _ _ hpos, coe_nonneg_mul_sum _ _ (inv_nonneg.mpr hpos.le), Fin.sum_univ_add,
    ← Fin.sum_univ_eq_sum_range (fun k => (((∑ k ∈ Finset.range c, Real.exp (y k + (d - μ)))⁻¹ : ℝ) : EReal) * (ew (y k + (d - μ)) * w k)) c]
  have hz : ∑ k : Fin e, u (Fin.natAdd c k) * Ideal.div (Ideal.exp (x (Fin.natAdd c k) - (μ : EReal)))
      ((∑ k ∈ Finset.range c, Real.exp (y k + (d - μ)) : ℝ) : EReal) = 0 := by
    refine Finset.sum_eq_zero fun k _ => ?_
    rw [he, if_neg (by simp), div_coe_pos _ _ hpos, mul_zero, mul_zero]
  rw [hz, add_zero]
  refine Finset.sum_congr rfl fun k _ => ?_
  rw [he, if_pos (by simp), div_coe_pos _ _ hpos, hu _ (by simp), Fin.val_castAdd]
  ac_rfl

end Cert.Softmax

end
-- ==== Proof.Block.lean ====
/-
  One block of 512 queries of a pair of heads, given that the scores are real: the chain of steps of `Pay` leaves, at
  query `r` and lane `l`, the softmax-weighted sum of lane `l` of the values over the keys up to the query, gated.
-/
module

public import proofs.«01_k».proof.Proof.PayAt
public import proofs.«01_k».proof.Proof.Softmax

@[expose] public section

noncomputable section

namespace Cert.KernelIdeal.Fox

open Cert.KernelIdeal Cert.KernelIdeal.Gen Idealize.ShloMosaic Idealize.ShloMosaic.TcCoe Cert.Softmax
open scoped BigOperators

/-- Row `512 h + r` of a stacked matrix. -/
abbrev row (h : Fin 2) (r : Fin 512) : Fin 1024 := ⟨512 * h.val + r.val, by omega⟩

/-- Lane `64 h + d` of a head pair. -/
abbrev lane (h : Fin 2) (d : Fin 64) : Fin 128 := ⟨64 * h.val + d.val, by omega⟩

/-- The score of query `r` and key `c` of head `h`, from the blocks loaded. -/
def rawScore (q k : FVec Ideal S1x512x128 .bf16) (b : Fin 2 → FVec Ideal S1x1x1x512 .f32) (h : Fin 2) (r c : Fin 512) : EReal :=
  (∑ d : Fin 64, q (ix3 0 r (lane h d)) * k (ix3 0 c (lane h d))) + b h (ix4 0 0 0 c) * ((-((Real.log 2)⁻¹) : ℝ) : EReal)

theorem score_apply (q k : FVec Ideal S1x512x128 .bf16) (b : Fin 2 → FVec Ideal S1x1x1x512 .f32) (h : Fin 2) (r c : Fin 512) :
    score q k (b 0) (b 1) (ix2 (row h r) c) = rawScore q k b h r c := by
  have hr := r.isLt
  fin_cases h
  · pointwise [score]
    rw [first_apply]
    simp [rawScore, lane]
  · pointwise [score]
    rw [biased_apply, second_apply]
    simp [rawScore, lane]

theorem scoreDiag_apply (q k : FVec Ideal S1x512x128 .bf16) (b : Fin 2 → FVec Ideal S1x1x1x512 .f32) (h : Fin 2) (r c : Fin 512) :
    scoreDiag q k (b 0) (b 1) (ix2 (row h r) c) = if c.val < r.val + 1 then rawScore q k b h r c else ⊥ := by
  have hr := r.isLt
  simp only [Nat.lt_succ_iff]
  fin_cases h
  · unfold scoreDiag
    generalize hp : k0_pay16 (F := Ideal) k0_pay2 q k (b 0) = p
    generalize hp' : select k0_pay3 p (broadcast S512x512 (Scalar.ofBits .f32 0xFF800000#32)) = p'
    pointwise []
    rw [← hp', causal_apply, ← hp, first_apply]
    simp [rawScore, lane]
  · unfold scoreDiag
    generalize hp : biased (k0_pay15 (F := Ideal) k0_pay2 q k) (b 1) = p
    generalize hp' : select k0_pay3 p (broadcast S512x512 (Scalar.ofBits .f32 0xFF800000#32)) = p'
    pointwise []
    rw [← hp', causal_apply, ← hp, biased_apply, second_apply]
    simp [rawScore, lane]

/-- The state's row `R` after `n` keys, every column a running sum over its own values `u l`. -/
def StAt (st : St) (R : Fin 1024) (y : ℕ → ℝ) (u : Fin 256 → ℕ → EReal) (n : ℕ) : Prop :=
  ∀ l : Fin 256, Running y (u l) n (st.1 (ix2 R 0)) (st.2 (ix2 R l))

theorem stAt_zero (R : Fin 1024) (y : ℕ → ℝ) (u : Fin 256 → ℕ → EReal) : StAt st0 R y u 0 := fun l => by
  rw [st0_max, st0_sum]; exact running_zero _ _

/-- A block of keys of which `e` are seen. -/
theorem StAt.take {st : St} {R : Fin 1024} {y : ℕ → ℝ} {u : Fin 256 → ℕ → EReal} {n : ℕ} (h : StAt st R y u n) (e : ℕ) (he : 0 < e)
    (he' : e ≤ 512) (s : FVec Ideal S1024x512 .f32) (v : FVec Ideal S1x512x128 .bf16)
    (hs : ∀ k : Fin 512, s (ix2 R k) = if k.val < e then ((y (n + k.val) / Real.log 2 : ℝ) : EReal) else ⊥)
    (hv : ∀ (l : Fin 256) (k : Fin 512), (if h : l.val < 128 then v (ix3 0 k ⟨l.val, h⟩) else 1) = u l (n + k.val)) :
    StAt (take st s v) R y u (n + e) := fun l => by
  rw [take_sum]
  exact (h l).block e he he' (fun k => s (ix2 R k)) _ hs (fun k _ => hv l k) (take_max st s v R)

/-- What the closing division and gate make of the state. -/
theorem finish_apply {st : St} (z : FVec Ideal S1x512x128 .bf16) (r : Fin 512) (l : Fin 128) {y : ℕ → ℝ} {u : Fin 256 → ℕ → EReal} {n : ℕ}
    (hn : 0 < n) (h : StAt st (row ⟨l.val / 64, by omega⟩ r) y u n) (hu : u 128 = fun _ => 1) :
    gated (quotient st.2) z (ix3 0 r l) = soft y (u ⟨l.val, by omega⟩) n * (z (ix3 0 r l) * Ideal.logistic (z (ix3 0 r l))) := by
  rw [gated_apply, quotient_apply]
  have h1 := h ⟨l.val, by omega⟩
  have h2 := h 128
  rw [hu] at h2
  have key := soft_of_running hn h1 h2
  split_ifs with hl
  · have e : (⟨l.val / 64, by omega⟩ : Fin 2) = 0 := Fin.ext (by simp; omega)
    rw [← key, e]
    simp [row]
  · have e : (⟨l.val / 64, by omega⟩ : Fin 2) = 1 := Fin.ext (by simp; omega)
    rw [← key, e]
    simp [row]

end Cert.KernelIdeal.Fox

end
-- ==== Proof.Out.lean ====
/-
  What one grid step of the attention kernel leaves in its output block: the four stored blocks of 512 rows, each the
  chain of steps of `Pay` over the loads of the input windows. And the loads, read at an index.
-/
module

public import proofs.«01_k».proof.Proof.Gen.KernelIdeal.Value
public import proofs.«01_k».proof.Proof.Pay
public import Idealize.ShloMosaic.Lib.Pipeline.ValueKit

@[expose] public section

noncomputable section

namespace Cert.KernelIdeal.Fox

open Cert.KernelIdeal Cert.KernelIdeal.Gen Idealize.ShloMosaic Idealize.ShloMosaic.TcCoe

/-! The blocks of 512 rows of a window, and the row of forget sums of one head and one block of keys. -/

def rows0 (x : Vec Ideal S1x2048x128 .bf16) : Vec Ideal S1x512x128 .bf16 := View.ld x (Rect.unit ![0, 0, 0] ![1, 512, 128] inb_S1x2048x128_S1x512x128_0_0_0)
def rows1 (x : Vec Ideal S1x2048x128 .bf16) : Vec Ideal S1x512x128 .bf16 := View.ld x (Rect.unit ![0, 512, 0] ![1, 512, 128] inb_S1x2048x128_S1x512x128_0_512_0)
def rows2 (x : Vec Ideal S1x2048x128 .bf16) : Vec Ideal S1x512x128 .bf16 := View.ld x (Rect.unit ![0, 1024, 0] ![1, 512, 128] inb_S1x2048x128_S1x512x128_0_1024_0)
def rows3 (x : Vec Ideal S1x2048x128 .bf16) : Vec Ideal S1x512x128 .bf16 := View.ld x (Rect.unit ![0, 1536, 0] ![1, 512, 128] inb_S1x2048x128_S1x512x128_0_1536_0)
def bias0 (i : grid0.Coords) (h : Fin 2) (x : Vec Ideal S1x4x16x512 .f32) : Vec Ideal S1x1x1x512 .f32 :=
  View.ld x (Rect.unit (k0_off1 i (BitVec.ofNat 32 h.val)) ![1, 1, 1, 512] (k0_off1_inb i h))
def bias1 (i : grid0.Coords) (h : Fin 2) (x : Vec Ideal S1x4x16x512 .f32) : Vec Ideal S1x1x1x512 .f32 :=
  View.ld x (Rect.unit (k0_off2 i (BitVec.ofNat 32 h.val)) ![1, 1, 1, 512] (k0_off2_inb i h))
def bias2 (i : grid0.Coords) (h : Fin 2) (x : Vec Ideal S1x4x16x512 .f32) : Vec Ideal S1x1x1x512 .f32 :=
  View.ld x (Rect.unit (k0_off3 i (BitVec.ofNat 32 h.val)) ![1, 1, 1, 512] (k0_off3_inb i h))
def bias3 (i : grid0.Coords) (h : Fin 2) (x : Vec Ideal S1x4x16x512 .f32) : Vec Ideal S1x1x1x512 .f32 :=
  View.ld x (Rect.unit (k0_off4 i (BitVec.ofNat 32 h.val)) ![1, 1, 1, 512] (k0_off4_inb i h))

theorem out_pieces (c : Dev nD) (i : grid0.Coords)
  (a2 : Memref sig .tc .vmem S1x2048x128 .bf16) (h2 : a2.IsWhole) (a3 : Memref sig .tc .vmem S1x2048x128 .bf16) (h3 : a3.IsWhole)
  (a4 : Memref sig .tc .vmem S1x2048x128 .bf16) (h4 : a4.IsWhole) (a5 : Memref sig .tc .vmem S1x2048x128 .bf16) (h5 : a5.IsWhole)
  (a6 : Memref sig .tc .vmem S1x4x16x512 .f32) (h6 : a6.IsWhole) (a7 : Memref sig .tc .vmem S1x2048x128 .bf16) (h7 : a7.IsWhole)
  (x0 x1 x2 x3 : Vec Ideal S1x2048x128 .bf16) (x4 : Vec Ideal S1x4x16x512 .f32) :
    out0_A_5 c i a2 h2 a3 h3 a4 h4 a5 h5 a6 h6 a7 h7 x0 x1 x2 x3 x4 =
      View.canon [
        ⟨Rect.unit ![0, 1536, 0] ![1, 512, 128] inb_S1x2048x128_S1x512x128_0_1536_0,
          block3 (rows3 x0) (rows0 x1) (rows1 x1) (rows2 x1) (rows3 x1) (rows0 x2) (rows1 x2) (rows2 x2) (rows3 x2) (rows3 x3)
            (bias0 i 0 x4) (bias1 i 0 x4) (bias2 i 0 x4) (bias3 i 0 x4) (bias0 i 1 x4) (bias1 i 1 x4) (bias2 i 1 x4) (bias3 i 1 x4)⟩,
        ⟨Rect.unit ![0, 1024, 0] ![1, 512, 128] inb_S1x2048x128_S1x512x128_0_1024_0,
          block2 (rows2 x0) (rows0 x1) (rows1 x1) (rows2 x1) (rows0 x2) (rows1 x2) (rows2 x2) (rows2 x3)
            (bias0 i 0 x4) (bias1 i 0 x4) (bias2 i 0 x4) (bias0 i 1 x4) (bias1 i 1 x4) (bias2 i 1 x4)⟩,
        ⟨Rect.unit ![0, 512, 0] ![1, 512, 128] inb_S1x2048x128_S1x512x128_0_512_0,
          block1 (rows1 x0) (rows0 x1) (rows1 x1) (rows0 x2) (rows1 x2) (rows1 x3) (bias0 i 0 x4) (bias1 i 0 x4) (bias0 i 1 x4) (bias1 i 1 x4)⟩,
        ⟨Rect.unit ![0, 0, 0] ![1, 512, 128] inb_S1x2048x128_S1x512x128_0_0_0,
          block0 (rows0 x0) (rows0 x1) (rows0 x2) (rows0 x3) (bias0 i 0 x4) (bias0 i 1 x4)⟩] := by
  frame_out
  rfl

theorem rows0_apply (x : Vec Ideal S1x2048x128 .bf16) (r : Fin 512) (l : Fin 128) :
    rows0 x (ix3 0 r l) = x (ix3 0 ⟨0 + r.val, by omega⟩ l) :=
  View.ld_unit_apply_of _ _ _ _ _ _ fun a => by fin_cases a <;> simp

theorem rows1_apply (x : Vec Ideal S1x2048x128 .bf16) (r : Fin 512) (l : Fin 128) :
    rows1 x (ix3 0 r l) = x (ix3 0 ⟨512 + r.val, by omega⟩ l) :=
  View.ld_unit_apply_of _ _ _ _ _ _ fun a => by fin_cases a <;> simp

theorem rows2_apply (x : Vec Ideal S1x2048x128 .bf16) (r : Fin 512) (l : Fin 128) :
    rows2 x (ix3 0 r l) = x (ix3 0 ⟨1024 + r.val, by omega⟩ l) :=
  View.ld_unit_apply_of _ _ _ _ _ _ fun a => by fin_cases a <;> simp

theorem rows3_apply (x : Vec Ideal S1x2048x128 .bf16) (r : Fin 512) (l : Fin 128) :
    rows3 x (ix3 0 r l) = x (ix3 0 ⟨1536 + r.val, by omega⟩ l) :=
  View.ld_unit_apply_of _ _ _ _ _ _ fun a => by fin_cases a <;> simp

theorem off0_eq (i : grid0.Coords) (h : Fin 2) : k0_off1 i (BitVec.ofNat 32 h.val) = ![0, 0, 2 * (i 1).val + h.val, 0] := by
  have h1 : (i 1).val < 8 := (i 1).isLt
  have h2 := h.isLt
  unfold k0_off1
  simp [Scalar.muli, Scalar.addi, Scalar.indexCast, IntOp.muli, IntOp.addi]
  omega

theorem bias0_apply (i : grid0.Coords) (h : Fin 2) (x : Vec Ideal S1x4x16x512 .f32) (k : Fin 512) :
    bias0 i h x (ix4 0 0 0 k) = x (ix4 0 0 ⟨2 * (i 1).val + h.val, by have h1 : (i 1).val < 8 := (i 1).isLt; omega⟩ k) :=
  View.ld_unit_apply_of _ _ _ _ _ _ fun a => by
    refine Eq.trans ?_ (congrArg (· + _) (congrFun (off0_eq i h) a).symm)
    fin_cases a <;> simp

theorem off1_eq (i : grid0.Coords) (h : Fin 2) : k0_off2 i (BitVec.ofNat 32 h.val) = ![0, 1, 2 * (i 1).val + h.val, 0] := by
  have h1 : (i 1).val < 8 := (i 1).isLt
  have h2 := h.isLt
  unfold k0_off2
  simp [Scalar.muli, Scalar.addi, Scalar.indexCast, IntOp.muli, IntOp.addi]
  omega

theorem bias1_apply (i : grid0.Coords) (h : Fin 2) (x : Vec Ideal S1x4x16x512 .f32) (k : Fin 512) :
    bias1 i h x (ix4 0 0 0 k) = x (ix4 0 1 ⟨2 * (i 1).val + h.val, by have h1 : (i 1).val < 8 := (i 1).isLt; omega⟩ k) :=
  View.ld_unit_apply_of _ _ _ _ _ _ fun a => by
    refine Eq.trans ?_ (congrArg (· + _) (congrFun (off1_eq i h) a).symm)
    fin_cases a <;> simp

theorem off2_eq (i : grid0.Coords) (h : Fin 2) : k0_off3 i (BitVec.ofNat 32 h.val) = ![0, 2, 2 * (i 1).val + h.val, 0] := by
  have h1 : (i 1).val < 8 := (i 1).isLt
  have h2 := h.isLt
  unfold k0_off3
  simp [Scalar.muli, Scalar.addi, Scalar.indexCast, IntOp.muli, IntOp.addi]
  omega

theorem bias2_apply (i : grid0.Coords) (h : Fin 2) (x : Vec Ideal S1x4x16x512 .f32) (k : Fin 512) :
    bias2 i h x (ix4 0 0 0 k) = x (ix4 0 2 ⟨2 * (i 1).val + h.val, by have h1 : (i 1).val < 8 := (i 1).isLt; omega⟩ k) :=
  View.ld_unit_apply_of _ _ _ _ _ _ fun a => by
    refine Eq.trans ?_ (congrArg (· + _) (congrFun (off2_eq i h) a).symm)
    fin_cases a <;> simp

theorem off3_eq (i : grid0.Coords) (h : Fin 2) : k0_off4 i (BitVec.ofNat 32 h.val) = ![0, 3, 2 * (i 1).val + h.val, 0] := by
  have h1 : (i 1).val < 8 := (i 1).isLt
  have h2 := h.isLt
  unfold k0_off4
  simp [Scalar.muli, Scalar.addi, Scalar.indexCast, IntOp.muli, IntOp.addi]
  omega

theorem bias3_apply (i : grid0.Coords) (h : Fin 2) (x : Vec Ideal S1x4x16x512 .f32) (k : Fin 512) :
    bias3 i h x (ix4 0 0 0 k) = x (ix4 0 3 ⟨2 * (i 1).val + h.val, by have h1 : (i 1).val < 8 := (i 1).isLt; omega⟩ k) :=
  View.ld_unit_apply_of _ _ _ _ _ _ fun a => by
    refine Eq.trans ?_ (congrArg (· + _) (congrFun (off3_eq i h) a).symm)
    fin_cases a <;> simp

end Cert.KernelIdeal.Fox

end
-- ==== Proof.Step.lean ====
/-
  One grid step of the attention kernel, given that its scores are real: at row `t` and lane `l` of the output block
  stands the softmax-weighted sum of lane `l` of the values over keys `0 … t`, times the gate.
-/
module

public import proofs.«01_k».proof.Proof.Block
public import proofs.«01_k».proof.Proof.Out

@[expose] public section

noncomputable section

namespace Cert.KernelIdeal.Fox

open Cert.KernelIdeal Cert.KernelIdeal.Gen Idealize.ShloMosaic Idealize.ShloMosaic.TcCoe Cert.Softmax
open scoped BigOperators

/-- Lane `l` of the values, key by key (nothing past the last key). -/
def lanes (x2 : Vec Ideal S1x2048x128 .bf16) (l : Fin 128) (k : ℕ) : EReal := if h : k < 2048 then x2 (ix3 0 ⟨k, h⟩ l) else 0

/-- The columns the running sums are over: the values' lanes, then ones. -/
def cols (x2 : Vec Ideal S1x2048x128 .bf16) (l : Fin 256) : ℕ → EReal := if h : l.val < 128 then lanes x2 ⟨l.val, h⟩ else fun _ => 1

/-- Every score of the step is real, and `Y h t k / log 2`. -/
def RealScores (i : grid0.Coords) (x0 x1 : Vec Ideal S1x2048x128 .bf16) (x4 : Vec Ideal S1x4x16x512 .f32) (Y : Fin 2 → ℕ → ℕ → ℝ) : Prop :=
  ∀ (h : Fin 2) (t : Fin 2048) (N : Fin 4) (c : Fin 512),
    (∑ d : Fin 64, x0 (ix3 0 t (lane h d)) * x1 (ix3 0 ⟨512 * N.val + c.val, by omega⟩ (lane h d)))
      + x4 (ix4 0 N ⟨2 * (i 1).val + h.val, by have h1 : (i 1).val < 8 := (i 1).isLt; omega⟩ c) * ((-((Real.log 2)⁻¹) : ℝ) : EReal)
      = ((Y h t.val (512 * N.val + c.val) / Real.log 2 : ℝ) : EReal)

variable {i : grid0.Coords} {x0 x1 x2 x3 : Vec Ideal S1x2048x128 .bf16} {x4 : Vec Ideal S1x4x16x512 .f32} {Y : Fin 2 → ℕ → ℕ → ℝ}

/-- `q` is the block of rows number `J` of the window `x`. -/
def IsRows (x : Vec Ideal S1x2048x128 .bf16) (J : Fin 4) (q : FVec Ideal S1x512x128 .bf16) : Prop :=
  ∀ (r : Fin 512) (l : Fin 128), q (ix3 0 r l) = x (ix3 0 ⟨512 * J.val + r.val, by omega⟩ l)

/-- `b` is the pair of rows of forget sums of the block of keys number `N`. -/
def IsBias (i : grid0.Coords) (x : Vec Ideal S1x4x16x512 .f32) (N : Fin 4) (b : Fin 2 → FVec Ideal S1x1x1x512 .f32) : Prop :=
  ∀ (h : Fin 2) (k : Fin 512), b h (ix4 0 0 0 k) = x (ix4 0 N ⟨2 * (i 1).val + h.val, by have h1 : (i 1).val < 8 := (i 1).isLt; omega⟩ k)

theorem isRows0 (x : Vec Ideal S1x2048x128 .bf16) : IsRows x 0 (rows0 x) := fun r l => rows0_apply x r l
theorem isRows1 (x : Vec Ideal S1x2048x128 .bf16) : IsRows x 1 (rows1 x) := fun r l => rows1_apply x r l
theorem isRows2 (x : Vec Ideal S1x2048x128 .bf16) : IsRows x 2 (rows2 x) := fun r l => rows2_apply x r l
theorem isRows3 (x : Vec Ideal S1x2048x128 .bf16) : IsRows x 3 (rows3 x) := fun r l => rows3_apply x r l
theorem isBias0 (i : grid0.Coords) (x : Vec Ideal S1x4x16x512 .f32) : IsBias i x 0 (fun h => bias0 i h x) := fun h k => bias0_apply i h x k
theorem isBias1 (i : grid0.Coords) (x : Vec Ideal S1x4x16x512 .f32) : IsBias i x 1 (fun h => bias1 i h x) := fun h k => bias1_apply i h x k
theorem isBias2 (i : grid0.Coords) (x : Vec Ideal S1x4x16x512 .f32) : IsBias i x 2 (fun h => bias2 i h x) := fun h k => bias2_apply i h x k
theorem isBias3 (i : grid0.Coords) (x : Vec Ideal S1x4x16x512 .f32) : IsBias i x 3 (fun h => bias3 i h x) := fun h k => bias3_apply i h x k

theorem rawScore_eq (hY : RealScores i x0 x1 x4 Y) {J N : Fin 4} {q k : FVec Ideal S1x512x128 .bf16} {b : Fin 2 → FVec Ideal S1x1x1x512 .f32}
    (hq : IsRows x0 J q) (hk : IsRows x1 N k) (hb : IsBias i x4 N b) (h : Fin 2) (r c : Fin 512) :
    rawScore q k b h r c = ((Y h (512 * J.val + r.val) (512 * N.val + c.val) / Real.log 2 : ℝ) : EReal) := by
  rw [← hY h ⟨512 * J.val + r.val, by omega⟩ N c]
  unfold rawScore
  rw [hb]
  simp only [hq _ _, hk _ _]

theorem cols_eq {N : Fin 4} {v : FVec Ideal S1x512x128 .bf16} (hv : IsRows x2 N v) (l : Fin 256) (k : Fin 512) :
    (if h : l.val < 128 then v (ix3 0 k ⟨l.val, h⟩) else 1) = cols x2 l (512 * N.val + k.val) := by
  unfold cols
  split_ifs with h
  · rw [lanes, dif_pos (by omega), hv]
  · rfl

/-- A whole block of keys taken, block number `N`. -/
theorem StAt.full (hY : RealScores i x0 x1 x4 Y) {J N : Fin 4} {q k v : FVec Ideal S1x512x128 .bf16} {b : Fin 2 → FVec Ideal S1x1x1x512 .f32}
    (hq : IsRows x0 J q) (hk : IsRows x1 N k) (hv : IsRows x2 N v) (hb : IsBias i x4 N b) {st : St} {h : Fin 2} {r : Fin 512}
    (hst : StAt st (row h r) (Y h (512 * J.val + r.val)) (cols x2) (512 * N.val)) :
    StAt (Fox.take st (score q k (b 0) (b 1)) v) (row h r) (Y h (512 * J.val + r.val)) (cols x2) (512 * N.val + 512) :=
  hst.take 512 (by omega) le_rfl _ _ (fun c => by rw [score_apply, rawScore_eq hY hq hk hb, if_pos c.isLt]) (cols_eq hv)

/-- The diagonal block of keys taken. -/
theorem StAt.diag (hY : RealScores i x0 x1 x4 Y) {J : Fin 4} {q k v : FVec Ideal S1x512x128 .bf16} {b : Fin 2 → FVec Ideal S1x1x1x512 .f32}
    (hq : IsRows x0 J q) (hk : IsRows x1 J k) (hv : IsRows x2 J v) (hb : IsBias i x4 J b) {st : St} {h : Fin 2} {r : Fin 512}
    (hst : StAt st (row h r) (Y h (512 * J.val + r.val)) (cols x2) (512 * J.val)) :
    StAt (Fox.take st (scoreDiag q k (b 0) (b 1)) v) (row h r) (Y h (512 * J.val + r.val)) (cols x2) (512 * J.val + (r.val + 1)) :=
  hst.take (r.val + 1) (by omega) (by omega) _ _ (fun c => by rw [scoreDiag_apply, rawScore_eq hY hq hk hb]) (cols_eq hv)

/-- The value the step leaves at row `t`, lane `l`. -/
def stepValue (x2 x3 : Vec Ideal S1x2048x128 .bf16) (Y : Fin 2 → ℕ → ℕ → ℝ) (t : Fin 2048) (l : Fin 128) : EReal :=
  soft (Y ⟨l.val / 64, by omega⟩ t.val) (lanes x2 l) (t.val + 1) * (x3 (ix3 0 t l) * Ideal.logistic (x3 (ix3 0 t l)))

theorem finish_eq {J : Fin 4} {st : St} {z : FVec Ideal S1x512x128 .bf16} (hz : IsRows x3 J z) (r : Fin 512) (l : Fin 128)
    (h : StAt st (row ⟨l.val / 64, by omega⟩ r) (Y ⟨l.val / 64, by omega⟩ (512 * J.val + r.val)) (cols x2) (512 * J.val + (r.val + 1))) :
    gated (quotient st.2) z (ix3 0 r l) = stepValue x2 x3 Y ⟨512 * J.val + r.val, by omega⟩ l := by
  rw [finish_apply z r l (by omega) h (by rfl), hz]
  unfold stepValue
  rw [show cols x2 ⟨l.val, by omega⟩ = lanes x2 l from dif_pos l.isLt, ← add_assoc]

theorem block0_value (hY : RealScores i x0 x1 x4 Y) (r : Fin 512) (l : Fin 128) :
    block0 (rows0 x0) (rows0 x1) (rows0 x2) (rows0 x3) (bias0 i 0 x4) (bias0 i 1 x4) (ix3 0 r l)
      = stepValue x2 x3 Y ⟨0 + r.val, by omega⟩ l :=
  finish_eq (J := 0) (isRows0 x3) r l (.diag hY (isRows0 x0) (isRows0 x1) (isRows0 x2) (isBias0 i x4)
    (stAt_zero _ _ _))

theorem block1_value (hY : RealScores i x0 x1 x4 Y) (r : Fin 512) (l : Fin 128) :
    block1 (rows1 x0) (rows0 x1) (rows1 x1) (rows0 x2) (rows1 x2) (rows1 x3) (bias0 i 0 x4) (bias1 i 0 x4) (bias0 i 1 x4) (bias1 i 1 x4) (ix3 0 r l)
      = stepValue x2 x3 Y ⟨512 + r.val, by omega⟩ l :=
  finish_eq (J := 1) (isRows1 x3) r l (.diag hY (isRows1 x0) (isRows1 x1) (isRows1 x2) (isBias1 i x4)
    (.full hY (isRows1 x0) (isRows0 x1) (isRows0 x2) (isBias0 i x4)
    (stAt_zero _ _ _)))

theorem block2_value (hY : RealScores i x0 x1 x4 Y) (r : Fin 512) (l : Fin 128) :
    block2 (rows2 x0) (rows0 x1) (rows1 x1) (rows2 x1) (rows0 x2) (rows1 x2) (rows2 x2) (rows2 x3) (bias0 i 0 x4) (bias1 i 0 x4) (bias2 i 0 x4) (bias0 i 1 x4) (bias1 i 1 x4) (bias2 i 1 x4) (ix3 0 r l)
      = stepValue x2 x3 Y ⟨1024 + r.val, by omega⟩ l :=
  finish_eq (J := 2) (isRows2 x3) r l (.diag hY (isRows2 x0) (isRows2 x1) (isRows2 x2) (isBias2 i x4)
    (.full hY (isRows2 x0) (isRows1 x1) (isRows1 x2) (isBias1 i x4)
    (.full hY (isRows2 x0) (isRows0 x1) (isRows0 x2) (isBias0 i x4)
    (stAt_zero _ _ _))))

theorem block3_value (hY : RealScores i x0 x1 x4 Y) (r : Fin 512) (l : Fin 128) :
    block3 (rows3 x0) (rows0 x1) (rows1 x1) (rows2 x1) (rows3 x1) (rows0 x2) (rows1 x2) (rows2 x2) (rows3 x2) (rows3 x3) (bias0 i 0 x4) (bias1 i 0 x4) (bias2 i 0 x4) (bias3 i 0 x4) (bias0 i 1 x4) (bias1 i 1 x4) (bias2 i 1 x4) (bias3 i 1 x4) (ix3 0 r l)
      = stepValue x2 x3 Y ⟨1536 + r.val, by omega⟩ l :=
  finish_eq (J := 3) (isRows3 x3) r l (.diag hY (isRows3 x0) (isRows3 x1) (isRows3 x2) (isBias3 i x4)
    (.full hY (isRows3 x0) (isRows2 x1) (isRows2 x2) (isBias2 i x4)
    (.full hY (isRows3 x0) (isRows1 x1) (isRows1 x2) (isBias1 i x4)
    (.full hY (isRows3 x0) (isRows0 x1) (isRows0 x2) (isBias0 i x4)
    (stAt_zero _ _ _)))))

/-- The output block of one grid step. -/
theorem out_value (c : Dev nD) (i : grid0.Coords)
  (a2 : Memref sig .tc .vmem S1x2048x128 .bf16) (h2 : a2.IsWhole) (a3 : Memref sig .tc .vmem S1x2048x128 .bf16) (h3 : a3.IsWhole)
  (a4 : Memref sig .tc .vmem S1x2048x128 .bf16) (h4 : a4.IsWhole) (a5 : Memref sig .tc .vmem S1x2048x128 .bf16) (h5 : a5.IsWhole)
  (a6 : Memref sig .tc .vmem S1x4x16x512 .f32) (h6 : a6.IsWhole) (a7 : Memref sig .tc .vmem S1x2048x128 .bf16) (h7 : a7.IsWhole)
  (x0 x1 x2 x3 : Vec Ideal S1x2048x128 .bf16) (x4 : Vec Ideal S1x4x16x512 .f32) (Y : Fin 2 → ℕ → ℕ → ℝ) (hY : RealScores i x0 x1 x4 Y)
  (t : Fin 2048) (l : Fin 128) :
    out0_A_5 c i a2 h2 a3 h3 a4 h4 a5 h5 a6 h6 a7 h7 x0 x1 x2 x3 x4 (ix3 0 t l) = stepValue x2 x3 Y t l := by
  rw [out_pieces]
  canon_tiles x h
  all_goals
    obtain ⟨r, l', rfl⟩ : ∃ (r : Fin 512) (l' : Fin 128), x = ix3 0 r l' :=
      ⟨x 1, x 2, (eq_ix3 x).trans (congrArg (fun a => ix3 a (x 1) (x 2)) (Subsingleton.elim _ _))⟩
    obtain rfl : l = l' := Fin.ext h2
  · rw [block3_value hY]; exact congrArg (fun t' => stepValue x2 x3 Y t' l) (Fin.ext h1.symm)
  · rw [block2_value hY]; exact congrArg (fun t' => stepValue x2 x3 Y t' l) (Fin.ext h1.symm)
  · rw [block1_value hY]; exact congrArg (fun t' => stepValue x2 x3 Y t' l) (Fin.ext h1.symm)
  · rw [block0_value hY]; exact congrArg (fun t' => stepValue x2 x3 Y t' l) (Fin.ext ((Nat.zero_add _).trans h1.symm))

end Cert.KernelIdeal.Fox

end
-- ==== Proof.Spec.lean ====
/-
  The forgetting attention of one head, in the problem's mathematics, over real queries, keys and forget sums: logits
  `q·k / 8 - c_k` (a shift of a query's logits, `c_t`, changes no softmax), softmax over the keys up to the query, values
  weighed, the result gated by `z · logistic z`.
-/
module

public import proofs.«01_k».proof.Proof.Softmax
public import Idealize.ShloMosaic.Lib.Pointwise

@[expose] public section

noncomputable section

namespace Cert.Spec

open Idealize.ShloMosaic Cert.Softmax
open scoped BigOperators

/-- An array of tokens' 1024 lanes, and of tokens' 16 heads. -/
abbrev Wide : Type := (⟨3, ![32, 2048, 1024]⟩ : Shape).Idx → EReal
abbrev Heads : Type := (⟨3, ![32, 2048, 16]⟩ : Shape).Idx → EReal

/-- Every element is real. -/
def Real' {ι : Type} (x : ι → EReal) : Prop := ∀ i, ((x i).toReal : EReal) = x i

/-- Lane `64 h + d` of a token. -/
abbrev lane (h : Fin 16) (d : Fin 64) : Fin 1024 := ⟨64 * h.val + d.val, by omega⟩

/-- The logit of query `t` and key `k`, up to the query's own shift. -/
def logit (q k : Wide) (c : Heads) (b : Fin 32) (h : Fin 16) (t j : Fin 2048) : ℝ :=
  (∑ d : Fin 64, (q (ix3 b t (lane h d))).toReal * (k (ix3 b j (lane h d))).toReal) * (1 / 8) - (c (ix3 b j h)).toReal

/-- The same by positions (nothing past the last token). -/
def logits (q k : Wide) (c : Heads) (b : Fin 32) (h : Fin 16) (t j : ℕ) : ℝ :=
  if e : t < 2048 ∧ j < 2048 then logit q k c b h ⟨t, e.1⟩ ⟨j, e.2⟩ else 0

/-- Lane `l` of the values of batch row `b`, by positions. -/
def values (v : Wide) (b : Fin 32) (l : Fin 1024) (j : ℕ) : EReal := if e : j < 2048 then v (ix3 b ⟨j, e⟩ l) else 0

/-- The gated attention at token `t`, lane `l`. -/
def fox (q k v z : Wide) (c : Heads) (b : Fin 32) (t : Fin 2048) (l : Fin 1024) : EReal :=
  soft (logits q k c b ⟨l.val / 64, by omega⟩ t.val) (values v b l) (t.val + 1) * (z (ix3 b t l) * Ideal.logistic (z (ix3 b t l)))

/-- A dot product of real rows is real. -/
theorem dot_real {q k : Wide} (hq : Real' q) (hk : Real' k) (b : Fin 32) (h : Fin 16) (t j : Fin 2048) :
    ∑ d : Fin 64, q (ix3 b t (lane h d)) * k (ix3 b j (lane h d))
      = ((∑ d : Fin 64, (q (ix3 b t (lane h d))).toReal * (k (ix3 b j (lane h d))).toReal : ℝ) : EReal) := by
  rw [← coe_sum]
  exact Finset.sum_congr rfl fun d _ => by rw [EReal.coe_mul, hq, hk]

end Cert.Spec

end
-- ==== Proof.Host.lean ====
/-
  What the host hands the attention kernel, at an index: the queries scaled, keys, values and gate unchanged, and the
  forget sums cut into blocks of 512 tokens.
-/
module

public import proofs.«01_k».proof.Proof.Gen.KernelIdeal.Value
public import proofs.«01_k».proof.Proof.Spec
public import Idealize.ShloMosaic.Lib.StableHlo.ReadAt
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe

variable (m : (ℓ : Loc nD τ sig) → Buf (Elt Ideal) ℓ) (c : Dev nD)

/-! The launch's arguments, as arrays of extended reals. -/

abbrev Q : Cert.Spec.Wide := m ((c : Thread nD τ).loc main_arg0)
abbrev K : Cert.Spec.Wide := m ((c : Thread nD τ).loc main_arg1)
abbrev Vs : Cert.Spec.Wide := m ((c : Thread nD τ).loc main_arg2)
abbrev Z : Cert.Spec.Wide := m ((c : Thread nD τ).loc main_arg3)
abbrev C : Cert.Spec.Heads := m ((c : Thread nD τ).loc main_arg4)

theorem host_q (b : Fin 32) (t : Fin 2048) (l : Fin 1024) :
    (V m c main_v4 (ix3 b t l) : EReal) = Q m c (ix3 b t l) * ((1 / 8 / Real.log 2 : ℝ) : EReal) := by
  unfold V
  after_reads_at
  rw [Softmax.eighth, Softmax.two]
  exact congrArg (Q m c (ix3 b t l) * ·) Softmax.scale

theorem host_c (b : Fin 32) (N : Fin 4) (h : Fin 16) (k : Fin 512) :
    (V m c main_v6 (ix4 b N h k) : EReal) = C m c (ix3 b ⟨512 * N.val + k.val, by omega⟩ h) := by
  unfold V
  after_reads_at
  exact congrArg (C m c) (congrArg (fun a => ix3 b a h) (Fin.ext (congrArg (· + _) (Nat.mul_comm _ _))))

theorem host_k (b : Fin 32) (t : Fin 2048) (l : Fin 1024) :
    (V m c main_v7 (ix3 b t l) : EReal) = K m c (ix3 b t l) := by
  unfold V
  after_reads_at

theorem host_v (b : Fin 32) (t : Fin 2048) (l : Fin 1024) :
    (V m c main_v8 (ix3 b t l) : EReal) = Vs m c (ix3 b t l) := by
  unfold V
  after_reads_at

theorem host_z (b : Fin 32) (t : Fin 2048) (l : Fin 1024) :
    (V m c main_v9 (ix3 b t l) : EReal) = Z m c (ix3 b t l) := by
  unfold V
  after_reads_at

end Cert.KernelIdeal.Fox

end
-- ==== Proof.Array.lean ====
/-
  The attention kernel's result array after the run, at an index: the gated attention of `Spec` over the launch's
  arguments, when queries, keys and forget sums are real.
-/
module

public import proofs.«01_k».proof.Proof.Step
public import proofs.«01_k».proof.Proof.Host

@[expose] public section

set_option maxRecDepth 16384

noncomputable section

namespace Cert.KernelIdeal.Fox

open Cert.KernelIdeal Cert.KernelIdeal.Gen Idealize.ShloMosaic Idealize.ShloMosaic.TcCoe Cert.Softmax Cert.Spec
open scoped BigOperators

variable (m : (ℓ : Loc nD τ sig) → Buf (Elt Ideal) ℓ) (c : Dev nD)

/-- The batch row and the head pair of a grid point. -/
def rowOf (t : Fin cfg0.N) : Fin 32 := grid0.coords t 0
def pairOf (t : Fin cfg0.N) : Fin 8 := grid0.coords t 1

theorem index_wide (i : grid0.Coords) : cc0_transform_0 i = ![(i 0).val, 0, (i 1).val] := by
  have h0 : (i 0).val < 32 := (i 0).isLt
  have h1 : (i 1).val < 8 := (i 1).isLt
  unfold cc0_transform_0
  funext a
  fin_cases a <;> simp <;> omega

theorem index_heads (i : grid0.Coords) : cc0_transform_4 i = ![(i 0).val, 0, 0, 0] := by
  have h0 : (i 0).val < 32 := (i 0).isLt
  unfold cc0_transform_4
  funext a
  fin_cases a <;> simp <;> omega

theorem idx (t : Fin cfg0.N) : win0_0.index t = ![(rowOf t).val, 0, (pairOf t).val] ∧ win0_1.index t = ![(rowOf t).val, 0, (pairOf t).val]
    ∧ win0_2.index t = ![(rowOf t).val, 0, (pairOf t).val] ∧ win0_3.index t = ![(rowOf t).val, 0, (pairOf t).val]
    ∧ win0_4.index t = ![(rowOf t).val, 0, 0, 0] ∧ win0_5.index t = ![(rowOf t).val, 0, (pairOf t).val] :=
  ⟨index_wide _, index_wide _, index_wide _, index_wide _, index_heads _, index_wide _⟩

/-- Lane `l` of the head pair, as a lane of the token. -/
abbrev wideLane (t : Fin cfg0.N) (l : Fin 128) : Fin 1024 := ⟨128 * (pairOf t).val + l.val, by have := (pairOf t).isLt; omega⟩

theorem iblk0 (t : Fin cfg0.N) (r : Fin 2048) (l : Fin 128) : (iblk m c 0 t (ix3 0 r l) : EReal) = V m c main_v4 (ix3 (rowOf t) r (wideLane t l)) := by
  blk_ext [iblk, idx t]
theorem iblk1 (t : Fin cfg0.N) (r : Fin 2048) (l : Fin 128) : (iblk m c 1 t (ix3 0 r l) : EReal) = V m c main_v7 (ix3 (rowOf t) r (wideLane t l)) := by
  blk_ext [iblk, idx t]
theorem iblk2 (t : Fin cfg0.N) (r : Fin 2048) (l : Fin 128) : (iblk m c 2 t (ix3 0 r l) : EReal) = V m c main_v8 (ix3 (rowOf t) r (wideLane t l)) := by
  blk_ext [iblk, idx t]
theorem iblk3 (t : Fin cfg0.N) (r : Fin 2048) (l : Fin 128) : (iblk m c 3 t (ix3 0 r l) : EReal) = V m c main_v9 (ix3 (rowOf t) r (wideLane t l)) := by
  blk_ext [iblk, idx t]
theorem iblk4 (t : Fin cfg0.N) (N : Fin 4) (h : Fin 16) (k : Fin 512) : (iblk m c 4 t (ix4 0 N h k) : EReal) = V m c main_v6 (ix4 (rowOf t) N h k) := by
  blk_ext [iblk, idx t]

/-- The windows of queries and keys. -/
abbrev w0 (t : Fin cfg0.N) : Vec Ideal S1x2048x128 .bf16 := iblk m c 0 t
abbrev w1 (t : Fin cfg0.N) : Vec Ideal S1x2048x128 .bf16 := iblk m c 1 t

theorem covers5 : (cfg0.win 5).Covers := by decide +kernel

/-- The head of half `h` of the point's pair. -/
abbrev headOf (t : Fin cfg0.N) (h : Fin 2) : Fin 16 := ⟨2 * (pairOf t).val + h.val, by have := (pairOf t).isLt; omega⟩

theorem wideLane_lane (t : Fin cfg0.N) (h : Fin 2) (d : Fin 64) : wideLane t (lane h d) = Cert.Spec.lane (headOf t h) d :=
  Fin.ext (by simp only [lane, wideLane, Cert.Spec.lane, headOf]; omega)

theorem realScores (hq : Real' (Q m c)) (hk : Real' (K m c)) (hc : Real' (C m c)) (t : Fin cfg0.N) :
    RealScores (grid0.coords t) (iblk m c 0 t) (iblk m c 1 t) (iblk m c 4 t) (fun h => logits (Q m c) (K m c) (C m c) (rowOf t) (headOf t h)) := by
  intro h tt N cc
  have e1 : ∀ d : Fin 64, w0 m c t (ix3 0 tt (lane h d)) * w1 m c t (ix3 0 ⟨512 * N.val + cc.val, by omega⟩ (lane h d))
      = ((((Q m c (ix3 (rowOf t) tt (Cert.Spec.lane (headOf t h) d))).toReal
          * (K m c (ix3 (rowOf t) ⟨512 * N.val + cc.val, by omega⟩ (Cert.Spec.lane (headOf t h) d))).toReal) * (1 / 8 / Real.log 2) : ℝ) : EReal) := fun d => by
    have a0 : w0 m c t (ix3 0 tt (lane h d)) = _ := (iblk0 m c t tt (lane h d)).trans (host_q m c _ _ _)
    have a1 : w1 m c t (ix3 0 ⟨512 * N.val + cc.val, by omega⟩ (lane h d)) = _ := (iblk1 m c t _ (lane h d)).trans (host_k m c _ _ _)
    rw [a0, a1, wideLane_lane, EReal.coe_mul, EReal.coe_mul, hq, hk]
    ac_rfl
  have e2 : (iblk m c 4 t (ix4 0 N ⟨2 * (grid0.coords t 1).val + h.val, by have h1 : (grid0.coords t 1).val < 8 := (grid0.coords t 1).isLt; omega⟩ cc) : EReal)
      = (((C m c (ix3 (rowOf t) ⟨512 * N.val + cc.val, by omega⟩ (headOf t h))).toReal : ℝ) : EReal) := by
    rw [iblk4, host_c, hc]
    rfl
  refine (congrArg₂ (fun a b : EReal => a + b * ((-((Real.log 2)⁻¹) : ℝ) : EReal)) (Finset.sum_congr rfl fun d _ => e1 d) e2).trans ?_
  rw [coe_sum, ← EReal.coe_mul, ← EReal.coe_add, ← Finset.sum_mul]
  beta_reduce
  unfold logits
  rw [dif_pos ⟨tt.isLt, by omega⟩]
  unfold logit
  congr 1
  have h2 : Real.log 2 ≠ 0 := (Real.log_pos (by norm_num)).ne'
  field_simp
  ring

theorem lanes_eq (t : Fin cfg0.N) (l : Fin 128) : lanes (iblk m c 2 t) l = values (Vs m c) (rowOf t) (wideLane t l) := by
  funext k
  unfold lanes values
  split_ifs with hk
  · rw [iblk2, host_v]
  · rfl

theorem stepValue_eq (t : Fin cfg0.N) (r : Fin 2048) (l : Fin 128) :
    stepValue (iblk m c 2 t) (iblk m c 3 t) (fun h => logits (Q m c) (K m c) (C m c) (rowOf t) (headOf t h)) r l
      = fox (Q m c) (K m c) (Vs m c) (Z m c) (C m c) (rowOf t) r (wideLane t l) := by
  unfold stepValue fox
  rw [lanes_eq, iblk3, host_z]
  have e : headOf t ⟨l.val / 64, by omega⟩ = ⟨(wideLane t l).val / 64, by omega⟩ := Fin.ext (by simp only [headOf, wideLane]; omega)
  beta_reduce
  rw [e]

/-- The kernel's result array. -/
theorem result (hq : Real' (Q m c)) (hk : Real' (K m c)) (hc : Real' (C m c)) :
    (dats m 0 c).arrAt 5 cfg0.N
      = fun i : S32x2048x1024.Idx => fox (Q m c) (K m c) (Vs m c) (Z m c) (C m c) (i 0) (i 1) (i 2) := by
  refine (dats m 0 c).arrAt_eq_of_covers 5 _ covers5 fun t hf y => ?_
  blk_simp
  rw [after0_5]
  obtain ⟨r, l, rfl⟩ : ∃ (r : Fin 2048) (l : Fin 128), y = ix3 0 r l :=
    ⟨y 1, y 2, (eq_ix3 y).trans (congrArg (fun a => ix3 a (y 1) (y 2)) (Subsingleton.elim _ _))⟩
  refine (out_value c _ _ _ _ _ _ _ _ _ _ _ _ _ _ _ _ _ _ _ (realScores m c hq hk hc t) r l).trans ((stepValue_eq m c t r l).trans ?_)
  have e : (win0_5.blk t).view.emb (ix3 0 r l) = ix3 (rowOf t) r (wideLane t l) := by blk_ext [idx t]
  rw [e]
  rfl

end Cert.KernelIdeal.Fox

end
-- ==== Proof.Reference.lean ====
/-
  What the reference computes, at an index: the whole-matrix attention's steps by name, and its result as the gated
  attention of the problem's mathematics.
-/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Fox

open Cert.ReferenceIdeal Cert.ReferenceIdeal.Gen Idealize.ShloMosaic Idealize.ShloMosaic.TcCoe Idealize.ShloMosaic.StableHlo
open Cert.Spec Cert.Softmax
open scoped BigOperators

/-- Key at most query. -/
abbrev causal : IVec S32x16x2048x2048 1 :=
  broadcastInDim S32x16x2048x2048 ![2, 3] bcast_S2048x2048_S32x16x2048x2048_2_3 (cmpi .sle
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The masked logits. -/
def scores (q k : FVec Ideal S32x2048x1024 .f32) (g : FVec Ideal S32x2048x16 .f32) : FVec Ideal S32x16x2048x2048 .f32 :=
  select causal
    (addf (mulf (Host.dotGeneral dot_S32x2048x16x64_S32x2048x16x64_S32x16x2048x2048_3_3_1_1_02_02 none
        (shapeCast _ q shapeCasts_S32x2048x1024_S32x2048x16x64) (shapeCast _ k shapeCasts_S32x2048x1024_S32x2048x16x64))
        (broadcastInDim S32x16x2048x2048 ![] bcast_S_S32x16x2048x2048 (constant S_ .f32 0x3E000000#32)))
      (subf (broadcastInDim S32x16x2048x2048 ![0, 1, 2, 3] bcast_S32x16x2048x1_S32x16x2048x2048_0_1_2_3
          (broadcastInDim S32x16x2048x1 ![0, 1, 2] bcast_S32x16x2048_S32x16x2048x1_0_1_2
            (transpose S32x16x2048 [0, 2, 1] g transposes_S32x2048x16_S32x16x2048_0_2_1)))
        (broadcastInDim S32x16x2048x2048 ![0, 1, 2, 3] bcast_S32x16x1x2048_S32x16x2048x2048_0_1_2_3
          (broadcastInDim S32x16x1x2048 ![0, 1, 3] bcast_S32x16x2048_S32x16x1x2048_0_1_3
            (transpose S32x16x2048 [0, 2, 1] g transposes_S32x2048x16_S32x16x2048_0_2_1)))))
    (broadcastInDim S32x16x2048x2048 ![] bcast_S_S32x16x2048x2048 (id (constant S_ .f32 0xFF800000#32)))

/-- A query's largest logit. -/
def largest (x : FVec Ideal S32x16x2048x2048 .f32) : FVec Ideal S32x16x2048 .f32 :=
  maximumf (broadcastInDim S32x16x2048 ![] bcast_S_S32x16x2048 (constant S_ .f32 0xFF800000#32))
    (Host.reduce FloatOps.maximumf x (constant S_ .f32 0xFF800000#32) reducesTo_S32x16x2048x2048_S32x16x2048_d3 h_S_)

/-- One number per query, along its keys. -/
abbrev along (y : FVec Ideal S32x16x2048 .f32) : FVec Ideal S32x16x2048x2048 .f32 :=
  broadcastInDim S32x16x2048x2048 ![0, 1, 2, 3] bcast_S32x16x2048x1_S32x16x2048x2048_0_1_2_3
    (broadcastInDim S32x16x2048x1 ![0, 1, 2] bcast_S32x16x2048_S32x16x2048x1_0_1_2 y)

/-- The shifted exponentials. -/
def exps (x : FVec Ideal S32x16x2048x2048 .f32) : FVec Ideal S32x16x2048x2048 .f32 := Host.exp (subf x (along (largest x)))

/-- The softmax weights. -/
def weights (x : FVec Ideal S32x16x2048x2048 .f32) : FVec Ideal S32x16x2048x2048 .f32 :=
  Host.divf (exps x) (along (Host.reduceAdd (exps x) (constant S_ .f32 0x00000000#32) reducesTo_S32x16x2048x2048_S32x16x2048_d3 h_S_))

/-- The gated result. -/
def out (p : FVec Ideal S32x16x2048x2048 .f32) (v z : FVec Ideal S32x2048x1024 .f32) : FVec Ideal S32x2048x1024 .bf16 :=
  truncf .bf16 (mulf (shapeCast _ (transpose S32x2048x16x64 [0, 3, 1, 2]
      (Host.dotGeneral dot_S32x2048x16x64_S32x16x2048x2048_S32x16x64x2048_1_3_3_2_02_01 none
        (shapeCast _ v shapeCasts_S32x2048x1024_S32x2048x16x64) p)
      transposes_S32x16x64x2048_S32x2048x16x64_0_3_1_2) shapeCasts_S32x2048x16x64_S32x2048x1024)
    (mulf z (Host.divf (broadcastInDim S32x2048x1024 ![] bcast_S_S32x2048x1024 (constant S_ .f32 0x3F800000#32))
      (addf (broadcastInDim S32x2048x1024 ![] bcast_S_S32x2048x1024 (constant S_ .f32 0x3F800000#32)) (Host.exp (Host.negf z)))))) bitsLt_bf16_f32

theorem neg_infinity : Ideal.ofBits .f32 0xFF800000#32 = ⊥ := by simp [Ideal.ofBits, Ideal.ieee]

theorem select_causal {α : Type} (a b : ℕ) (ha : a < 2048) (hb : b < 2048) (x y : α) :
    Scalar.select (IntOp.cmpi .sle (BitVec.ofNat 32 a) (BitVec.ofNat 32 b)) x y = if a < b + 1 then x else y := by
  rw [WordCmp.cmpi_sle_ofNat (by omega) (by omega), WordCmp.select_ofBool]
  simp only [decide_eq_true_eq, Nat.lt_succ_iff]

theorem scores_apply (q k : FVec Ideal S32x2048x1024 .f32) (g : FVec Ideal S32x2048x16 .f32)
    (b : Fin 32) (h : Fin 16) (t j : Fin 2048) :
    (scores q k g (ix4 b h t j) : EReal) = if j.val < t.val + 1 then
      (∑ d : Fin 64, q (ix3 b t (lane h d)) * k (ix3 b j (lane h d)) : EReal) * ((1 / 8 : ℝ) : EReal) + ((g (ix3 b t h) : EReal) - g (ix3 b j h)) else ⊥ := by
  pointwise [scores]
  rw [select_causal _ _ j.isLt t.isLt, eighth]
  refine if_congr Iff.rfl ?_ neg_infinity
  refine congrArg (fun a : EReal => a * _ + _) (Finset.sum_congr rfl fun d _ => ?_)
  have e : (⟨h.val * 64 + d.val, by omega⟩ : Fin 1024) = lane h d := Fin.ext (congrArg (· + _) (Nat.mul_comm _ _))
  rw [e]

/-- The host's maximum along the last axis of a four-axis array, at an index. -/
theorem max_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (i : Fin n0) (j : Fin n1) (k : Fin n2)
    {a : EReal} (ha : ∀ y, init y = a) :
    Host.reduce (FloatOps.maximumf : Ideal .f32 → Ideal .f32 → Ideal .f32) x init h hu (ix3 i j k)
      = (Finset.univ : Finset (Fin n3)).fold max a fun l => x (ix4 i j k l) := by
  rw [Host.reduce_eq_fold, ha]
  exact Shape.ReducesTo.fold_fiber_r4_a3 h _ _ _ _

/-- The same at the program's shapes. -/
theorem reduce_apply (x : FVec Ideal S32x16x2048x2048 .f32) (init : FVec Ideal S_ .f32) {a : EReal} (ha : ∀ y, init y = a) (b : Fin 32) (h : Fin 16) (t : Fin 2048) :
    Host.reduce FloatOps.maximumf x init reducesTo_S32x16x2048x2048_S32x16x2048_d3 h_S_ (ix3 b h t)
      = (Finset.univ : Finset (Fin 2048)).fold max a fun j => x (ix4 b h t j) :=
  max_last x init _ _ b h t ha

theorem ninf_apply (y : S_.Idx) : (constant S_ .f32 0xFF800000#32 : FVec Ideal S_ .f32) y = (⊥ : EReal) := neg_infinity

/-- The splat of minus infinity, at an index. -/
theorem ninf_wide (i : S32x16x2048.Idx) :
    broadcastInDim S32x16x2048 ![] bcast_S_S32x16x2048 (constant S_ .f32 0xFF800000#32 : FVec Ideal S_ .f32) i = (⊥ : EReal) := neg_infinity

theorem max_apply {s : Shape} (x y : FVec Ideal s .f32) (i : s.Idx) {a b : EReal} (hx : x i = a) (hy : y i = b) :
    (maximumf x y i : EReal) = max a b := by subst hx hy; rfl

/-- A query's largest logit, at an index. -/
theorem largest_apply (x : FVec Ideal S32x16x2048x2048 .f32) (b : Fin 32) (h : Fin 16) (t : Fin 2048) :
    (largest x (ix3 b h t) : EReal) = max ⊥ ((Finset.univ : Finset (Fin 2048)).fold max ⊥ fun j => x (ix4 b h t j)) := by
  unfold largest
  exact max_apply _ _ _ (ninf_wide _) (reduce_apply x _ ninf_apply b h t)

theorem exps_apply (x : FVec Ideal S32x16x2048x2048 .f32) (b : Fin 32) (h : Fin 16) (t j : Fin 2048) :
    (exps x (ix4 b h t j) : EReal) = Ideal.exp ((x (ix4 b h t j) : EReal) - largest x (ix3 b h t)) := by
  unfold exps
  generalize largest x = y
  pointwise []

theorem weights_apply (x : FVec Ideal S32x16x2048x2048 .f32) (b : Fin 32) (h : Fin 16) (t j : Fin 2048) :
    (weights x (ix4 b h t j) : EReal) = Ideal.div (exps x (ix4 b h t j)) (0 + ∑ i : Fin 2048, exps x (ix4 b h t i)) := by
  unfold weights
  generalize exps x = y
  pointwise []

theorem out_apply (p : FVec Ideal S32x16x2048x2048 .f32) (v z : FVec Ideal S32x2048x1024 .f32)
    (b : Fin 32) (t : Fin 2048) (l : Fin 1024) :
    (out p v z (ix3 b t l) : EReal) = (∑ j : Fin 2048, v (ix3 b j l) * p (ix4 b ⟨l.val / 64, by omega⟩ t j) : EReal)
      * ((z (ix3 b t l) : EReal) * Ideal.logistic (z (ix3 b t l))) := by
  pointwise [out]
  rfl

/-- The softmax's weighted sum, over real queries, keys and forget sums. -/
theorem attention {q k v : Wide} {g : Heads} (hq : Real' q) (hk : Real' k) (hg : Real' g)
    (b : Fin 32) (h : Fin 16) (t : Fin 2048) (l : Fin 1024) :
    (∑ j : Fin 2048, v (ix3 b j l) * weights (scores q k g) (ix4 b h t j) : EReal)
      = soft (logits q k g b h t.val) (values v b l) (t.val + 1) := by
  have e : ∀ j : Fin 2048, (weights (scores q k g) (ix4 b h t j) : EReal)
      = Ideal.div (Ideal.exp (scores q k g (ix4 b h t j) - largest (scores q k g) (ix3 b h t)))
        (0 + ∑ i : Fin 2048, Ideal.exp (scores q k g (ix4 b h t i) - largest (scores q k g) (ix3 b h t))) := fun j => by
    rw [weights_apply, exps_apply]
    exact congrArg (fun a : EReal => Ideal.div _ (0 + a)) (Finset.sum_congr rfl fun i _ => exps_apply _ _ _ _ _)
  refine (Finset.sum_congr rfl fun j _ => congrArg (v (ix3 b j l) * ·) (e j)).trans ?_
  refine soft_of_textbook (logits q k g b h t.val) (values v b l) (t.val + 1) (Nat.succ_pos _) t.isLt (g (ix3 b t h)).toReal
    (fun j => scores q k g (ix4 b h t j)) (fun j => v (ix3 b j l)) (fun j => ?_) (fun j _ => ?_) (largest_apply _ _ _ _)
  · beta_reduce
    rw [scores_apply]
    refine if_congr Iff.rfl ?_ rfl
    unfold logits
    rw [dot_real hq hk, dif_pos ⟨t.isLt, j.isLt⟩, ← hg (ix3 b t h), ← hg (ix3 b j h), ← EReal.coe_mul, ← EReal.coe_sub, ← EReal.coe_add]
    unfold logit
    simp only [EReal.toReal_coe]
    congr 1
    ring
  · unfold values
    rw [dif_pos j.isLt]

variable (m : (ℓ : Loc nD τ sig) → Buf (Elt Ideal) ℓ) (c : Dev nD)

theorem opened : Value.res_main_v37 m c = out (weights (scores (m ((c.tc : Thread nD τ).loc main_arg0)) (m ((c.tc : Thread nD τ).loc main_arg1)) (m ((c.tc : Thread nD τ).loc main_arg4))))
    (m ((c.tc : Thread nD τ).loc main_arg2)) (m ((c.tc : Thread nD τ).loc main_arg3)) := rfl

/-- The reference's result array. -/
theorem result (hq : Real' (m ((c.tc : Thread nD τ).loc main_arg0) : Wide)) (hk : Real' (m ((c.tc : Thread nD τ).loc main_arg1) : Wide))
    (hg : Real' (m ((c.tc : Thread nD τ).loc main_arg4) : Heads)) :
    Value.res_main_v37 m c = fun i : S32x2048x1024.Idx => fox (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (i 0) (i 1) (i 2) := by
  rw [opened]
  funext i
  obtain ⟨b, t, l, rfl⟩ : ∃ (b : Fin 32) (t : Fin 2048) (l : Fin 1024), i = ix3 b t l := ⟨i 0, i 1, i 2, eq_ix3 i⟩
  refine (out_apply _ _ _ b t l).trans ?_
  exact congrArg (fun a : EReal => a * _) (attention hq hk hg b _ t l)

end Cert.ReferenceIdeal.Fox

end
-- ==== Proof.Finite.lean ====
/-
  The precondition read: queries, keys and forget sums whose absolute values are below infinity are real.
-/
module

public import proofs.«01_k».proof.Pre_finite_inputs
public import proofs.«01_k».proof.Proof.Spec
public import Idealize.ShloMosaic.Lib.Pointwise

@[expose] public section

noncomputable section

namespace Cert.Pre_finite_inputs

open Idealize.ShloMosaic Cert.Spec

instance holds : Facts := ⟨by decide, by decide⟩

theorem infinity : Ideal.ofBits .f32 0x7F800000#32 = ⊤ := by simp [Ideal.ofBits, Ideal.ieee]

/-- An extended real whose absolute value is below infinity is real. -/
theorem real_of_abs (x : EReal) (h : max x (-x) < ⊤) : ((x.toReal : ℝ) : EReal) = x := by
  refine EReal.coe_toReal ?_ ?_
  · rintro rfl
    simp at h
  · rintro rfl
    simp at h

theorem real_of_test (x : EReal) (h : (FloatOps.cmpf (F := Ideal) (φ := .f32) .olt (max x (-x) : EReal) (Ideal.ofBits .f32 0x7F800000#32)) = 1#1) :
    ((x.toReal : ℝ) : EReal) = x := by
  refine real_of_abs x ?_
  rw [infinity] at h
  by_contra hn
  have e : (FloatOps.cmpf (F := Ideal) (φ := .f32) .olt (max x (-x) : EReal) (⊤ : EReal)) = BitVec.ofBool (decide (max x (-x) < (⊤ : EReal))) := rfl
  rw [e, decide_eq_false hn] at h
  exact absurd h (by decide)

theorem reals (q k v z : FVec Ideal S32x2048x1024 .f32) (g : FVec Ideal S32x2048x16 .f32)
    (h : (fn (F := Ideal) q k v z g).1 = (fun _ => 1#1) ∧ (fn (F := Ideal) q k v z g).2.1 = (fun _ => 1#1) ∧ (fn (F := Ideal) q k v z g).2.2 = (fun _ => 1#1)) :
    Real' (q : Wide) ∧ Real' (k : Wide) ∧ Real' (g : Heads) :=
  ⟨fun i => real_of_test _ (congrFun h.1 i), fun i => real_of_test _ (congrFun h.2.1 i), fun i => real_of_test _ (congrFun h.2.2 i)⟩

end Cert.Pre_finite_inputs

end
-- ==== Proof.FoxClaims.lean ====
/-
  The claims about the forgetting attention: the frames, the named constant, and the equation of the two result arrays.
-/
module

public import proofs.«01_k».proof.Defs
public import proofs.«01_k».proof.Proof.Gen.Kernel.Frame
public import proofs.«01_k».proof.Proof.Array
public import proofs.«01_k».proof.Proof.Reference
public import proofs.«01_k».proof.Proof.Finite

@[expose] public section

noncomputable section

namespace Cert.FoxClaims

open Idealize.ShloMosaic Idealize.ShloMosaic.TcCoe Idealize.SL.Sem Cert.Spec

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_inputs := fun m ρ _ => Cert.KernelIdeal.Gen.frame m ρ

/-- The reference declares no semaphore, and its run leaves the arguments. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_finite_inputs := fun m ρ _ => frame_reference m ρ trivial

theorem preserves : Cert.preserves_Kernel_KernelIdeal :=
  IdealRules.named_const.statement Cert.KernelIdeal.κ "neg_log2e" .f32 0xBFB8AA3B#32 _ rfl

/-- Both result arrays are the gated attention of the same arguments. -/
theorem algebraic : Cert.algebraic_KernelIdeal_ReferenceIdeal_pre_finite_inputs := by
  intro m ρ m' ρ' hpre hagree
  have hr (c : Dev Cert.KernelIdeal.nD) := Cert.Pre_finite_inputs.reals _ _ _ _ _ (hpre c)
  refine ⟨fun c => (Cert.KernelIdeal.Gen.dats m 0 c).arrAt 5 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨e0, e1, e2, e3, e4⟩ := hagree c
  have hr' := hr c
  refine (Cert.ReferenceIdeal.Fox.result m' c ?_ ?_ ?_).trans (Eq.trans ?_ (Cert.KernelIdeal.Fox.result m c hr'.1 hr'.2.1 hr'.2.2).symm)
  · rw [e0]; exact hr'.1
  · rw [e1]; exact hr'.2.1
  · rw [e4]; exact hr'.2.2
  · funext i
    rw [e0, e1, e2, e3, e4]

end Cert.FoxClaims

end
-- ==== Proof.Norm.lean ====
/-
  A token's row scaled by the reciprocal root of its mean square, and the rows this makes of products with a matrix.
-/
module

public import proofs.«01_k».proof.Proof.Spec

@[expose] public section

noncomputable section

namespace Cert.Spec

open Idealize.ShloMosaic
open scoped BigOperators

/-- The root-mean-square norm of a row of 1024 lanes with its weights, at a lane: the two constants are the row's length and the norm's epsilon. -/
def rmsNorm (y w : Fin 1024 → EReal) (l : Fin 1024) : EReal :=
  y l * Ideal.rsqrt (Ideal.div (∑ j, y j * y j) (Ideal.ofBits .f32 0x44800000#32) + Ideal.ofBits .f32 0x358637BD#32) * w l

/-- A row times a matrix. -/
def times (o : Fin 1024 → EReal) (W : Fin 1024 → Fin 1024 → EReal) (l : Fin 1024) : EReal := ∑ k, o k * W k l

/-- A residual row plus the norm of a row times a matrix. -/
def addNorm (x o : Fin 1024 → EReal) (W : Fin 1024 → Fin 1024 → EReal) (w : Fin 1024 → EReal) (l : Fin 1024) : EReal :=
  x l + rmsNorm (times o W) w l

end Cert.Spec

end
-- ==== Proof.OutProjKernel.lean ====
/-
  The last projection's kernel: what a grid step leaves in its block of 1024 tokens, and the result array after the run.
-/
module

public import proofs.«01_k».proof.Proof.Gen.Kernel2Ideal.Value
public import proofs.«01_k».proof.Proof.Norm
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel2Ideal.OutProj

open Cert.Kernel2Ideal Cert.Kernel2Ideal.Gen Idealize.ShloMosaic Idealize.ShloMosaic.TcCoe Cert.Spec
open scoped BigOperators

theorem pay_apply (o W : Vec Ideal S1024x1024 .bf16) (x : Vec Ideal S1024x1024 .f32) (g : Vec Ideal S1x1024 .f32) (r : Fin 1024) (l : Fin 1024) :
    (k0_pay1 o W x g (ix2 r l) : EReal)
      = addNorm (fun j => x (ix2 r j)) (fun j => o (ix2 r j)) (fun k j => W (ix2 k j)) (fun j => g (ix2 0 j)) l := by
  unfold addNorm rmsNorm times
  pointwise [k0_pay1]

theorem out_apply (x : Vec Ideal S1024x1024 .f32) (o W : Vec Ideal S1024x1024 .bf16) (g : Vec Ideal S1x1024 .f32) (r : Fin 1024) (l : Fin 1024) :
    (out0_4 x o W g (ix2 r l) : EReal)
      = addNorm (fun j => x (ix2 r j)) (fun j => o (ix2 r j)) (fun k j => W (ix2 k j)) (fun j => g (ix2 0 j)) l := by
  have e : out0_4 x o W g = k0_pay1 o W x g := by
    frame_out
  rw [e]
  exact pay_apply o W x g r l

variable (m : (ℓ : Loc nD τ sig) → Buf (Elt Ideal) ℓ) (c : Dev nD)

/-! The launch's arguments, as arrays of extended reals. -/

abbrev X : FVec Ideal S65536x1024 .f32 := m ((c : Thread nD τ).loc main_arg0)
abbrev O : FVec Ideal S65536x1024 .bf16 := m ((c : Thread nD τ).loc main_arg1)
abbrev W : FVec Ideal S1024x1024 .f32 := m ((c : Thread nD τ).loc main_arg2)
abbrev G : FVec Ideal S2x1024 .f32 := m ((c : Thread nD τ).loc main_arg3)

theorem host_w (k : Fin 1024) (l : Fin 1024) : (V m c main_v0 (ix2 k l) : EReal) = W m c (ix2 k l) := by
  unfold V
  after_reads_at

theorem host_g (l : Fin 1024) : (V m c main_v1 (ix2 0 l) : EReal) = G m c (ix2 1 l) := by
  unfold V
  after_reads_at

theorem host_x (r : Fin 65536) (l : Fin 1024) : (V m c main_arg0 (ix2 r l) : EReal) = X m c (ix2 r l) := by
  unfold V
  after_reads_at

theorem host_o (r : Fin 65536) (l : Fin 1024) : (V m c main_arg1 (ix2 r l) : EReal) = O m c (ix2 r l) := by
  unfold V
  after_reads_at

/-- The block of tokens of a grid point. -/
def blockOf (t : Fin cfg0.N) : Fin 64 := grid0.coords t 0

theorem index_rows (i : grid0.Coords) : cc0_transform_0 i = ![(i 0).val, 0] := by
  have h0 : (i 0).val < 64 := (i 0).isLt
  unfold cc0_transform_0
  funext a
  fin_cases a <;> simp <;> omega

theorem idx (t : Fin cfg0.N) : win0_0.index t = ![(blockOf t).val, 0] ∧ win0_1.index t = ![(blockOf t).val, 0]
    ∧ win0_2.index t = ![0, 0] ∧ win0_3.index t = ![0, 0] ∧ win0_4.index t = ![(blockOf t).val, 0] :=
  ⟨index_rows _, index_rows _, rfl, rfl, index_rows _⟩

/-- Row `r` of the point's block. -/
abbrev token (t : Fin cfg0.N) (r : Fin 1024) : Fin 65536 := ⟨1024 * (blockOf t).val + r.val, by have := (blockOf t).isLt; omega⟩

theorem iblk0 (t : Fin cfg0.N) (r l : Fin 1024) : (iblk m c 0 t (ix2 r l) : EReal) = V m c main_arg0 (ix2 (token t r) l) := by
  blk_ext [iblk, idx t]
theorem iblk1 (t : Fin cfg0.N) (r l : Fin 1024) : (iblk m c 1 t (ix2 r l) : EReal) = V m c main_arg1 (ix2 (token t r) l) := by
  blk_ext [iblk, idx t]
theorem iblk2 (t : Fin cfg0.N) (r l : Fin 1024) : (iblk m c 2 t (ix2 r l) : EReal) = V m c main_v0 (ix2 r l) := by
  blk_ext [iblk, idx t]
theorem iblk3 (t : Fin cfg0.N) (l : Fin 1024) : (iblk m c 3 t (ix2 0 l) : EReal) = V m c main_v1 (ix2 0 l) := by
  blk_ext [iblk, idx t]

theorem covers4 : (cfg0.win 4).Covers := by decide +kernel

/-- The kernel's result array. -/
theorem result : (dats m 0 c).arrAt 4 cfg0.N = fun i : S65536x1024.Idx =>
    addNorm (fun j => X m c (ix2 (i 0) j)) (fun j => O m c (ix2 (i 0) j)) (fun k j => W m c (ix2 k j)) (fun j => G m c (ix2 1 j)) (i 1) := by
  refine (dats m 0 c).arrAt_eq_of_covers 4 _ covers4 fun t hf y => ?_
  blk_simp
  rw [after0_4]
  obtain ⟨r, l, rfl⟩ : ∃ (r : Fin 1024) (l : Fin 1024), y = ix2 r l := ⟨y 0, y 1, eq_ix2 y⟩
  refine (out_apply _ _ _ _ r l).trans ?_
  have e : (win0_4.blk t).view.emb (ix2 r l) = ix2 (token t r) l := by blk_ext [idx t]
  rw [e]
  have e0 : (fun j => iblk m c 0 t (ix2 r j) : Fin 1024 → EReal) = fun j => X m c (ix2 (token t r) j) := funext fun j => (iblk0 m c t r j).trans (host_x m c _ _)
  have e1 : (fun j => iblk m c 1 t (ix2 r j) : Fin 1024 → EReal) = fun j => O m c (ix2 (token t r) j) := funext fun j => (iblk1 m c t r j).trans (host_o m c _ _)
  have e2 : (fun k j => iblk m c 2 t (ix2 k j) : Fin 1024 → Fin 1024 → EReal) = fun k j => W m c (ix2 k j) :=
    funext fun k => funext fun j => (iblk2 m c t k j).trans (host_w m c _ _)
  have e3 : (fun j => iblk m c 3 t (ix2 0 j) : Fin 1024 → EReal) = fun j => G m c (ix2 1 j) := funext fun j => (iblk3 m c t j).trans (host_g m c _)
  exact (congr (congr (congr (congrArg addNorm e0) e1) e2) e3 ▸ rfl)

end Cert.Kernel2Ideal.OutProj

end
-- ==== Proof.OutProjReference.lean ====
/-
  The reference of the last projection, at an index: the residual token plus the norm of its projected attention row.
-/
module

public import proofs.«01_k».proof.Proof.Gen.Reference2Ideal.Run
public import proofs.«01_k».proof.Proof.Norm
public import Idealize.ShloMosaic.Lib.Pointwise

@[expose] public section

set_option maxRecDepth 16384

noncomputable section

namespace Cert.Reference2Ideal.OutProj

open Cert.Reference2Ideal Cert.Reference2Ideal.Gen Idealize.ShloMosaic Idealize.ShloMosaic.TcCoe Idealize.ShloMosaic.StableHlo
open Cert.Spec
open scoped BigOperators

/-- The projected rows. -/
def prod (o : FVec Ideal S65536x1024 .bf16) (W : FVec Ideal S1024x1024 .f32) : FVec Ideal S65536x1024 .f32 :=
  Host.dotGeneral dot_S65536x1024_S1024x1024_S65536x1024_1_0_0_1_n_n none (extf .f32 o bitsLt_bf16_f32) W

/-- The norm's factor of each row. -/
abbrev factor (y : FVec Ideal S65536x1024 .f32) : FVec Ideal S65536x1 .f32 :=
  Host.rsqrt (addf (Host.divf (broadcastInDim S65536x1 ![0] bcast_S65536_S65536x1_0
      (Host.reduceAdd (mulf y y) (constant S_ .f32 0x00000000#32) reducesTo_S65536x1024_S65536_d1 h_S_))
    (broadcastInDim S65536x1 ![] bcast_S_S65536x1 (constant S_ .f32 0x44800000#32)))
    (broadcastInDim S65536x1 ![] bcast_S_S65536x1 (constant S_ .f32 0x358637BD#32)))

/-- The residual stream after the projection. -/
def out (x y : FVec Ideal S65536x1024 .f32) (g : FVec Ideal S2x1024 .f32) : FVec Ideal S65536x1024 .f32 :=
  addf x (mulf (mulf y (broadcastInDim S65536x1024 ![0, 1] bcast_S65536x1_S65536x1024_0_1 (factor y)))
    (broadcastInDim S65536x1024 ![0, 1] bcast_S1x1024_S65536x1024_0_1 (broadcastInDim S1x1024 ![1] bcast_S1024_S1x1024_1
      (shapeCast _ (extractStridedSlice S1x1024 ![1, 0] g slices_S2x1024_S1x1024_1_0) shapeCasts_S1x1024_S1024))))

theorem prod_apply (o : FVec Ideal S65536x1024 .bf16) (W : FVec Ideal S1024x1024 .f32) (r : Fin 65536) (l : Fin 1024) :
    (prod o W (ix2 r l) : EReal) = ∑ k : Fin 1024, o (ix2 r k) * W (ix2 k l) := by
  pointwise [prod]

theorem out_apply (x y : FVec Ideal S65536x1024 .f32) (g : FVec Ideal S2x1024 .f32) (r : Fin 65536) (l : Fin 1024) :
    (out x y g (ix2 r l) : EReal) = x (ix2 r l) + rmsNorm (fun j => y (ix2 r j)) (fun j => g (ix2 1 j)) l := by
  unfold rmsNorm
  pointwise [out]

/-- The reference's result array, at an index. -/
theorem result (x : FVec Ideal S65536x1024 .f32) (o : FVec Ideal S65536x1024 .bf16) (W : FVec Ideal S1024x1024 .f32) (g : FVec Ideal S2x1024 .f32) :
    out x (prod o W) g = fun i : S65536x1024.Idx =>
      addNorm (fun j => x (ix2 (i 0) j)) (fun j => o (ix2 (i 0) j)) (fun k j => W (ix2 k j)) (fun j => g (ix2 1 j)) (i 1) := by
  funext i
  obtain ⟨r, l, rfl⟩ : ∃ (r : Fin 65536) (l : Fin 1024), i = ix2 r l := ⟨i 0, i 1, eq_ix2 i⟩
  refine (out_apply x _ g r l).trans ?_
  unfold addNorm times
  exact congrArg (fun y : Fin 1024 → EReal => (x (ix2 r l) : EReal) + rmsNorm y _ l) (funext fun j => prod_apply o W r j)

end Cert.Reference2Ideal.OutProj

end
-- ==== Proof.OutProjClaims.lean ====
/-
  The claims about the last projection: the frames, and the equation of the two result arrays.
-/
module

public import proofs.«01_k».proof.Defs
public import proofs.«01_k».proof.Proof.Gen.Kernel2.Frame
public import proofs.«01_k».proof.Proof.OutProjKernel
public import proofs.«01_k».proof.Proof.OutProjReference

@[expose] public section

noncomputable section

namespace Cert.OutProjClaims

open Idealize.ShloMosaic Idealize.ShloMosaic.TcCoe Idealize.SL.Sem

theorem frame : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- Both result arrays are the residual rows of the same arguments. -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run (F := Ideal) m' ρ')
  obtain ⟨e0, e1, e2, e3⟩ := hagree c
  refine Eq.trans (Cert.Reference2Ideal.OutProj.result _ _ _ _) (Eq.trans ?_ (Cert.Kernel2Ideal.OutProj.result m c).symm)
  rw [e0, e1, e2, e3]

end Cert.OutProjClaims

end
-- ==== Proof.Middle.lean ====
/-
  The layer's middle stage at a token: the residual stream after the first two attentions, its norm's products with the next weights, and the running sums of its forget gates.
-/
module

public import proofs.«01_k».proof.Proof.Norm

@[expose] public section

noncomputable section

namespace Cert.Spec

open Idealize.ShloMosaic
open scoped BigOperators

/-- The stage's arguments: the stream, the two attentions' rows, and the weights. -/
structure Stage where
  x : Fin 65536 → Fin 1024 → EReal
  oa : Fin 65536 → Fin 512 → EReal
  ob : Fin 65536 → Fin 512 → EReal
  wout : Fin 1024 → Fin 1024 → EReal
  post : Fin 1024 → EReal
  pre : Fin 1024 → EReal
  win : Fin 1024 → Fin 4112 → EReal
  bias : Fin 16 → EReal

/-- Two rows of 512, one after the other. -/
def joined (u v : Fin 512 → EReal) (k : Fin 1024) : EReal := if h : k.val < 512 then u ⟨k.val, h⟩ else v ⟨k.val - 512, by have := k.isLt; omega⟩

/-- `log (sigmoid f)`, with the exponential of a negative number. -/
def logSigmoid (f : EReal) : EReal := -(max (-f) 0 + Ideal.log1p (Ideal.exp (-(max (-f) (- -f)))))

namespace Stage

variable (a : Stage)

/-- The residual stream. -/
def stream (r : Fin 65536) : Fin 1024 → EReal := addNorm (a.x r) (joined (a.oa r) (a.ob r)) a.wout a.post

/-- Its norm. -/
def hidden (r : Fin 65536) : Fin 1024 → EReal := rmsNorm (a.stream r) a.pre

/-- The next projection's column `j`. -/
def proj (r : Fin 65536) (j : Fin 4112) : EReal := ∑ k, a.hidden r k * a.win k j

/-- The logarithm of head `h`'s forget gate. -/
def gate (r : Fin 65536) (h : Fin 16) : EReal := logSigmoid (a.proj r ⟨4096 + h.val, by have := h.isLt; omega⟩ + a.bias h)

/-- The gates of the first `n` tokens of sequence `b`. -/
def gates (b : Fin 32) (n : ℕ) (h : Fin 16) : EReal := ∑ s ∈ Finset.range n, a.gate (Fin.ofNat 65536 (2048 * b.val + s)) h

end Stage

end Cert.Spec

end
-- ==== Proof.MiddleHost.lean ====
/-
  The middle call's host values and its blocks: what the launch hands the kernel, and where each step's blocks lie.
-/
module

public import proofs.«01_k».proof.Proof.Gen.Kernel3Ideal.Value
public import proofs.«01_k».proof.Proof.Middle
public import Idealize.ShloMosaic.Lib.Routing.OpsOne
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel3Ideal.Middle
open Cert.Kernel3Ideal Cert.Kernel3Ideal.Gen Idealize.ShloMosaic Idealize.ShloMosaic.TcCoe Cert.Spec
open Routing (shape1 shape2)
open scoped BigOperators

variable (m : (ℓ : Loc nD τ sig) → Buf (Elt Ideal) ℓ) (c : Dev nD)

/-! The launch's arguments, as arrays of extended reals. -/

abbrev X : FVec Ideal S65536x1024 .f32 := m ((c : Thread nD τ).loc main_arg0)
abbrev OA : FVec Ideal S65536x512 .bf16 := m ((c : Thread nD τ).loc main_arg1)
abbrev OB : FVec Ideal S65536x512 .bf16 := m ((c : Thread nD τ).loc main_arg2)
abbrev W : FVec Ideal S1024x1024 .f32 := m ((c : Thread nD τ).loc main_arg3)
abbrev G : FVec Ideal S2x1024 .f32 := m ((c : Thread nD τ).loc main_arg4)
abbrev G' : FVec Ideal S2x1024 .f32 := m ((c : Thread nD τ).loc main_arg5)
abbrev U : FVec Ideal S1024x4112 .f32 := m ((c : Thread nD τ).loc main_arg6)
abbrev B : FVec Ideal S16 .f32 := m ((c : Thread nD τ).loc main_arg7)

theorem host_w (k : Fin 1024) (l : Fin 1024) : (V m c main_v5 (ix2 k l) : EReal) = W m c (ix2 k l) := by
  unfold V
  after_reads_at

theorem host_g (l : Fin 1024) : (V m c main_v6 (ix2 0 l) : EReal) = G m c (ix2 0 l) := by
  unfold V
  after_reads_at

theorem host_g' (l : Fin 1024) : (V m c main_v7 (ix2 0 l) : EReal) = G' m c (ix2 1 l) := by
  unfold V
  after_reads_at

theorem host_x (r : Fin 65536) (l : Fin 1024) : (V m c main_arg0 (ix2 r l) : EReal) = X m c (ix2 r l) := by
  unfold V
  after_reads_at

theorem host_oa (r : Fin 65536) (l : Fin 512) : (V m c main_arg1 (ix2 r l) : EReal) = OA m c (ix2 r l) := by
  unfold V
  after_reads_at

theorem host_ob (r : Fin 65536) (l : Fin 512) : (V m c main_arg2 (ix2 r l) : EReal) = OB m c (ix2 r l) := by
  unfold V
  after_reads_at

/-- The columns of the padded projection that the weights fill. -/
theorem host_u (k : Fin 1024) (l : Fin 4112) : (V m c main_v4 (ix2 k ⟨l.val, by omega⟩) : EReal) = U m c (ix2 k l) := by
  unfold V
  by_cases h : l.val < 4096
  · after_reads_at
    rw [dif_pos h]
    after_reads_at
  · after_reads_at
    rw [dif_neg h]
    after_reads_at
    rw [dif_pos (by omega)]
    exact congrArg (fun j => U m c (ix2 k j)) (Fin.ext (by show 4096 + (l.val - 4096) = l.val; omega))

/-- The update's position `k` lands on lane `k` of the row. -/
theorem lands_row {C T w : Nat} (d : ScatterDims (shape2 1 C) (shape1 2) (shape1 T)) (hiw : d.insertedWindowDims = [0]) (hsd : d.scatterDimsToOperandDims = [0, 1])
    (hivd : d.indexVectorDim = 0) (idx : IVec (shape1 2) w) (h0 : (idx (ValueIdx.ix1 (0 : Fin 2))).toInt = 0) (h1 : (idx (ValueIdx.ix1 (1 : Fin 2))).toInt = 0) (k : Fin T) (l : Fin C) :
    d.resultIdx? (ValueIdx.ix1 k) idx = some (ValueIdx.ix2 0 l) ↔ k.val = l.val := by
  have hwin0 : d.window (ValueIdx.ix1 k) 0 = 0 := by
    unfold ScatterDims.window
    rw [dif_neg fun h => (of_decide_eq_true (List.mem_filter.1 h).2) (by rw [hiw]; simp)]
  have hwin1 : d.window (ValueIdx.ix1 k) 1 = k.val := by
    have hk : d.sKept = [1] := by
      show (shape2 1 C).kept d.insertedWindowDims = _
      rw [hiw]
      rfl
    unfold ScatterDims.window
    rw [dif_pos (by rw [hk]; simp)]
    exact congrArg (fun t => ((ValueIdx.ix1 k : (shape1 T).Idx) t).val) (Subsingleton.elim (α := Fin 1) _ 0)
  rw [Routing.resultIdx?_ix2, Routing.start_pair d hsd hivd, Routing.start_pair d hsd hivd, hwin0, hwin1]
  simp only [h0, h1]
  have : (((0 : Fin 1)).val : Int) = 0 := rfl
  omega

theorem host_b (l : Fin 16) : (V m c main_v12 (ix2 0 ⟨l.val, by omega⟩) : EReal) = B m c (ix1 l) := by
  unfold V
  after_reads_at
  have hl := fun k j => lands_row (C := 128) (T := 16) scatter_S1x128_S2_S16_0_0_01_0 rfl rfl rfl (concatenate S2 0
        [⟨S1, StableHlo.upto [hostOps0, hostOps0_1, hostOps0_2].flatten (fun b => m (c, b)) 16 (Proc.tc.devRef main_v9)⟩,
          ⟨S1, StableHlo.upto [hostOps0, hostOps0_1, hostOps0_2].flatten (fun b => m (c, b)) 16 (Proc.tc.devRef main_v10)⟩]
        concatenates_S1_S1_S2_d0) (by after_reads_at; rfl) (by after_reads_at; rfl) k j
  refine Routing.scatter_set_hit _ _ _ _ _ _ (fun k hk => ?_) (ix1 l) ((hl l ⟨l.val, by omega⟩).2 rfl)
  obtain ⟨k, rfl⟩ : ∃ k' : Fin 16, k = ix1 k' := ⟨k 0, eq_ix1 k⟩
  have e : k = l := Fin.ext ((hl k ⟨l.val, by omega⟩).1 hk)
  rw [e]

/-! The blocks of a step: its own block of tokens for the stream, the block before for the rest. -/

theorem idx_rows : ∀ t : Fin cfg0.N, win0_0.index t = ![min t.val 255, 0] ∧ win0_1.index t = ![min t.val 255, 0] ∧ win0_2.index t = ![min t.val 255, 0]
    ∧ win0_8.index t = ![min t.val 255, 0] := by decide +kernel

theorem idx_before : ∀ t : Fin cfg0.N, win0_9.index t = ![t.val - 1, 0] ∧ win0_10.index t = ![t.val - 1, 0] ∧ win0_11.index t = ![t.val - 1, 0]
    ∧ win0_12.index t = ![t.val - 1, 0] := by decide +kernel

theorem idx_sums : ∀ t : Fin cfg0.N, win0_13.index t = ![(t.val - 1) / 8, (t.val - 1) % 8 / 2, 0, (t.val - 1) % 2] := by decide +kernel

theorem idx_whole (t : Fin cfg0.N) : win0_3.index t = ![0, 0] ∧ win0_4.index t = ![0, 0] ∧ win0_5.index t = ![0, 0] ∧ win0_6.index t = ![0, 0] ∧ win0_7.index t = ![0, 0] :=
  ⟨rfl, rfl, rfl, rfl, rfl⟩

theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel

/-- A step's own block of tokens, which the last step repeats. -/
abbrev block (t : Fin cfg0.N) : Fin 256 := ⟨min t.val 255, by omega⟩

/-- Row `r` of a block. -/
abbrev token (b : Fin 256) (r : Fin 256) : Fin 65536 := ⟨256 * b.val + r.val, by omega⟩

theorem iblk0 (t : Fin cfg0.N) (r : Fin 256) (l : Fin 1024) : (iblk m c 0 t (ix2 r l) : EReal) = V m c main_arg0 (ix2 (token (block t) r) l) := by
  blk_ext [iblk, idx_rows t]
theorem iblk1 (t : Fin cfg0.N) (r : Fin 256) (l : Fin 512) : (iblk m c 1 t (ix2 r l) : EReal) = V m c main_arg1 (ix2 (token (block t) r) l) := by
  blk_ext [iblk, idx_rows t]
theorem iblk2 (t : Fin cfg0.N) (r : Fin 256) (l : Fin 512) : (iblk m c 2 t (ix2 r l) : EReal) = V m c main_arg2 (ix2 (token (block t) r) l) := by
  blk_ext [iblk, idx_rows t]
theorem iblk3 (t : Fin cfg0.N) (r l : Fin 1024) : (iblk m c 3 t (ix2 r l) : EReal) = V m c main_v5 (ix2 r l) := by
  blk_ext [iblk, idx_whole t]
theorem iblk4 (t : Fin cfg0.N) (l : Fin 1024) : (iblk m c 4 t (ix2 0 l) : EReal) = V m c main_v6 (ix2 0 l) := by
  blk_ext [iblk, idx_whole t]
theorem iblk5 (t : Fin cfg0.N) (l : Fin 1024) : (iblk m c 5 t (ix2 0 l) : EReal) = V m c main_v7 (ix2 0 l) := by
  blk_ext [iblk, idx_whole t]
theorem iblk6 (t : Fin cfg0.N) (r : Fin 1024) (l : Fin 4224) : (iblk m c 6 t (ix2 r l) : EReal) = V m c main_v4 (ix2 r l) := by
  blk_ext [iblk, idx_whole t]
theorem iblk7 (t : Fin cfg0.N) (l : Fin 128) : (iblk m c 7 t (ix2 0 l) : EReal) = V m c main_v12 (ix2 0 l) := by
  blk_ext [iblk, idx_whole t]

end Cert.Kernel3Ideal.Middle

end
-- ==== Proof.Running.lean ====
/-
  Running sums: the window of a row's last `n` terms, doubled by adding the window that ends where it begins, and the host's window sum over a padded axis.
-/
module

public import Idealize.ShloMosaic.Lib.Pointwise

@[expose] public section

noncomputable section

namespace Cert.Running

open Idealize.ShloMosaic
open scoped BigOperators

/-- The sum of the last `n` terms up to `r` (of all of them when there are fewer). -/
def window (f : ℕ → EReal) (n r : ℕ) : EReal := ∑ i ∈ Finset.range (min n (r + 1)), f (r - i)

theorem window_one (f : ℕ → EReal) (r : ℕ) : window f 1 r = f r := by
  unfold window
  rw [Nat.min_eq_left (by omega), Finset.sum_range_one, Nat.sub_zero]

/-- Two adjacent windows. -/
theorem window_double (f : ℕ → EReal) (n r : ℕ) :
    window f n r + (if n ≤ r then window f n (r - n) else 0) = window f (n + n) r := by
  unfold window
  by_cases h : n ≤ r
  · rw [if_pos h, Nat.min_eq_left (by omega), show min (n + n) (r + 1) = n + min n (r - n + 1) by omega, Finset.sum_range_add]
    refine congrArg (_ + ·) (Finset.sum_congr rfl fun i _ => ?_)
    rw [Nat.sub_sub]
  · rw [if_neg h, add_zero, Nat.min_eq_right (by omega), Nat.min_eq_right (by omega)]

/-- A window longer than the row so far is the running sum. -/
theorem window_all (f : ℕ → EReal) (n r : ℕ) (h : r < n) : window f n r = ∑ i ∈ Finset.range (r + 1), f i := by
  unfold window
  rw [Nat.min_eq_right (by omega), ← Finset.sum_range_reflect]
  exact Finset.sum_congr rfl fun i hi => congrArg f (by have := Finset.mem_range.1 hi; omega)

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A column of `N` in a rank of three is its length. -/
def column (N : ℕ) : (⟨3, ![1, N, 1]⟩ : Shape).Idx ≃ Fin N where
  toFun p := p 1
  invFun n := ix3 0 n 0
  left_inv p := by
    refine Eq.trans ?_ (eq_ix3 p).symm
    exact congrArg₂ (fun a b => ix3 a (p 1) b) (Subsingleton.elim _ _) (Subsingleton.elim _ _)
  right_inv _ := rfl

theorem sum_shifted (f : ℕ → EReal) (M t : ℕ) (h : t ≤ M) :
    ∑ n ∈ Finset.range (M + 1), (if M ≤ t + n then f (t + n - M) else 0) = ∑ s ∈ Finset.range (t + 1), f s := by
  obtain ⟨d, rfl⟩ : ∃ d, M = t + d := ⟨M - t, by omega⟩
  rw [show t + d + 1 = d + (t + 1) by omega, Finset.sum_range_add, Finset.sum_eq_zero fun n hn => if_neg (by have := Finset.mem_range.1 hn; omega), zero_add]
  refine Finset.sum_congr rfl fun i _ => ?_
  rw [if_pos (by omega), show t + (d + i) - (t + d) = i by omega]

/-- The host's running sum along the middle axis, as a window of the whole axis padded low by one less. -/
theorem host_running {A N C M : ℕ} (hN : M + 1 = N) (x : (⟨3, ![A, N, C]⟩ : Shape).Idx → EReal) (f : ℕ → EReal)
    (h : (⟨3, ![A, N, C]⟩ : Shape).ReduceWindows (![1, N, 1] : Fin 3 → ℕ) ![1, 1, 1] ![0, M, 0] ![0, 0, 0] ⟨3, ![A, N, C]⟩)
    (b : Fin A) (t : Fin N) (c : Fin C) (hx : ∀ s : Fin N, x (ix3 b s c) = f s.val) :
    Ideal.hostReduceWindowAdd (![1, N, 1] : Fin 3 → ℕ) ![1, 1, 1] ![0, M, 0] ![0, 0, 0] h x 0 (ix3 b t c) = ∑ s ∈ Finset.range (t.val + 1), f s := by
  subst hN
  have ht := t.isLt
  have hb := b.isLt
  have hc := c.isLt
  unfold Ideal.hostReduceWindowAdd Host.reduceWindow
  refine (foldl_add _ _ _).trans ?_
  rw [zero_add, ← Fin.sum_univ_def]
  refine (Equiv.sum_comp (Shape.rowMajor (⟨3, ![1, M + 1, 1]⟩ : Shape)).symm (fun p : (⟨3, ![1, M + 1, 1]⟩ : Shape).Idx =>
    if M ≤ t.val + (p 1).val then f (t.val + (p 1).val - M) else 0) |> fun e => Eq.trans (Finset.sum_congr rfl fun n _ => ?_) e).trans ?_
  · obtain ⟨p, hp⟩ : ∃ p, p = (Shape.rowMajor (⟨3, ![1, M + 1, 1]⟩ : Shape)).symm n := ⟨_, rfl⟩
    have hp0 : (p 0).val = 0 := Nat.lt_one_iff.1 (p 0).isLt
    have hp2 : (p 2).val = 0 := Nat.lt_one_iff.1 (p 2).isLt
    have hp1 : (p 1).val < M + 1 := (p 1).isLt
    split
    · next hin =>
      have h1 := (hin 1).1
      change M ≤ t.val * 1 + ((Shape.rowMajor (⟨3, ![1, M + 1, 1]⟩ : Shape)).symm n 1).val at h1
      rw [← hp] at h1
      refine Eq.trans ?_ (if_pos (show M ≤ t.val + ((Shape.rowMajor (⟨3, ![1, M + 1, 1]⟩ : Shape)).symm n 1).val by rw [← hp]; omega)).symm
      refine (congrArg x (funext fun a => Fin.ext ?_)).trans ((hx ⟨t.val + (p 1).val - M, by omega⟩).trans (congrArg f (congrArg (fun q : (⟨3, ![1, M + 1, 1]⟩ : Shape).Idx => t.val + (q 1).val - M) hp)))
      match a with
      | ⟨0, _⟩ =>
        show b.val * 1 + ((Shape.rowMajor (⟨3, ![1, M + 1, 1]⟩ : Shape)).symm n 0).val - 0 = b.val
        rw [← hp]
        omega
      | ⟨1, _⟩ =>
        show t.val * 1 + ((Shape.rowMajor (⟨3, ![1, M + 1, 1]⟩ : Shape)).symm n 1).val - M = t.val + (p 1).val - M
        rw [← hp]
        omega
      | ⟨2, _⟩ =>
        show c.val * 1 + ((Shape.rowMajor (⟨3, ![1, M + 1, 1]⟩ : Shape)).symm n 2).val - 0 = c.val
        rw [← hp]
        omega
    · next hin =>
      refine (if_neg fun hle => hin fun a => by
        rw [← hp] at hle
        match a with
        | ⟨0, _⟩ =>
          show 0 ≤ b.val * 1 + ((Shape.rowMajor (⟨3, ![1, M + 1, 1]⟩ : Shape)).symm n 0).val ∧ b.val * 1 + ((Shape.rowMajor (⟨3, ![1, M + 1, 1]⟩ : Shape)).symm n 0).val - 0 < A
          rw [← hp]
          omega
        | ⟨1, _⟩ =>
          show M ≤ t.val * 1 + ((Shape.rowMajor (⟨3, ![1, M + 1, 1]⟩ : Shape)).symm n 1).val ∧ t.val * 1 + ((Shape.rowMajor (⟨3, ![1, M + 1, 1]⟩ : Shape)).symm n 1).val - M < M + 1
          rw [← hp]
          omega
        | ⟨2, _⟩ =>
          show 0 ≤ c.val * 1 + ((Shape.rowMajor (⟨3, ![1, M + 1, 1]⟩ : Shape)).symm n 2).val ∧ c.val * 1 + ((Shape.rowMajor (⟨3, ![1, M + 1, 1]⟩ : Shape)).symm n 2).val - 0 < C
          rw [← hp]
          omega).symm
  · refine (Fintype.sum_equiv (column (M + 1)) _ (fun n : Fin (M + 1) => if M ≤ t.val + n.val then f (t.val + n.val - M) else 0) fun p => rfl).trans ?_
    rw [Fin.sum_univ_eq_sum_range (fun n => if M ≤ t.val + n then f (t.val + n - M) else 0) (M + 1)]
    exact sum_shifted f M t.val (by omega)

/-- The same of the host's operation, with a zero start. -/
theorem host_sum {A N C M : ℕ} (hN : M + 1 = N) (x : FVec Ideal ⟨3, ![A, N, C]⟩ .f32) {u : Shape} (v : FVec Ideal u .f32) (f : ℕ → EReal)
    (h : (⟨3, ![A, N, C]⟩ : Shape).ReduceWindows (![1, N, 1] : Fin 3 → ℕ) ![1, 1, 1] ![0, M, 0] ![0, 0, 0] ⟨3, ![A, N, C]⟩)
    (hu : 0 < u.numel) (hv : (v (Shape.Idx.first hu) : EReal) = 0)
    (b : Fin A) (t : Fin N) (c : Fin C) (hx : ∀ s : Fin N, (x (ix3 b s c) : EReal) = f s.val) :
    (Host.reduceWindowAdd (![1, N, 1] : Fin 3 → ℕ) ![1, 1, 1] ![0, M, 0] ![0, 0, 0] x v h hu (ix3 b t c) : EReal) = ∑ s ∈ Finset.range (t.val + 1), f s := by
  unfold Host.reduceWindowAdd
  rw [hv]
  exact host_running hN x f h b t c hx

end Cert.Running

end
-- ==== Proof.MiddlePay.lean ====
/-
  The middle stage's kernel arithmetic, read at an index: the stream and its norm, the columns of the next projection, the forget gates and their running sums over a block.
-/
module

public import proofs.«01_k».proof.Proof.Gen.Kernel3Ideal.Skeleton
public import proofs.«01_k».proof.Proof.Middle
public import proofs.«01_k».proof.Proof.Running
public import Idealize.ShloMosaic.Lib.Pointwise
public import Idealize.ShloMosaic.Lib.WordCmp

@[expose] public section

set_option maxRecDepth 16384

noncomputable section

namespace Cert.Kernel3Ideal.Middle

open Cert.Kernel3Ideal Cert.Kernel3Ideal.Gen Idealize.ShloMosaic Idealize.ShloMosaic.TcCoe Cert.Spec
open scoped BigOperators

theorem stream_apply (u v : Vec Ideal S256x512 .bf16) (A B : Vec Ideal S512x1024 .bf16) (x : Vec Ideal S256x1024 .f32) (g : Vec Ideal S1x1024 .f32)
    (r : Fin 256) (l : Fin 1024) :
    (k0_pay9 u A v B x g (ix2 r l) : EReal)
      = x (ix2 r l) + rmsNorm (fun j => (∑ k : Fin 512, u (ix2 r k) * A (ix2 k j)) + ∑ k : Fin 512, v (ix2 r k) * B (ix2 k j)) (fun j => g (ix2 0 j)) l := by
  unfold rmsNorm
  pointwise [k0_pay9]

theorem hidden_apply (u v : Vec Ideal S256x512 .bf16) (A B : Vec Ideal S512x1024 .bf16) (x : Vec Ideal S256x1024 .f32) (g g' : Vec Ideal S1x1024 .f32)
    (r : Fin 256) (l : Fin 1024) :
    (k0_pay12 (k0_pay9 u A v B x g) (k0_pay10 g') (k0_pay11 u A v B x g) (ix2 r l) : EReal)
      = rmsNorm (fun j => k0_pay9 u A v B x g (ix2 r j)) (fun j => g' (ix2 0 j)) l := by
  unfold rmsNorm
  pointwise [k0_pay12, k0_pay10, k0_pay11]

theorem query_apply (h : Vec Ideal S256x1024 .bf16) (w : Vec Ideal S1024x512 .bf16) (r : Fin 256) (l : Fin 512) :
    (k0_pay13 h w (ix2 r l) : EReal) = (∑ k : Fin 1024, h (ix2 r k) * w (ix2 k l)) * (((8 * Real.log 2)⁻¹ : ℝ) : EReal) := by
  pointwise [k0_pay13]
  rfl

theorem column_apply (h : Vec Ideal S256x1024 .bf16) (w : Vec Ideal S1024x512 .bf16) (r : Fin 256) (l : Fin 512) :
    (k0_pay14 h w (ix2 r l) : EReal) = ∑ k : Fin 1024, h (ix2 r k) * w (ix2 k l) := by
  pointwise [k0_pay14]

theorem gate_apply (h : Vec Ideal S256x1024 .bf16) (w : Vec Ideal S1024x128 .bf16) (b : Vec Ideal S1x128 .f32) (r : Fin 256) (l : Fin 128) :
    (k0_pay22 h w b (ix2 r l) : EReal) = logSigmoid ((∑ k : Fin 1024, h (ix2 r k) * w (ix2 k l)) + b (ix2 0 l)) := by
  unfold logSigmoid
  pointwise [k0_pay22]
  rw [zero_sub, zero_sub, zero_sub]
  rfl

abbrev pos : IVec S256x128 32 := k0_pay26 256#32 k0_pay23 k0_pay24 k0_pay25

theorem pos_apply (r : Fin 256) (l : Fin 128) : pos (ix2 r l) = BitVec.ofNat 32 r.val := by
  pointwise [k0_pay26, k0_pay23, k0_pay24, k0_pay25]
  revert r
  decide +kernel

/-- One doubling: every row adds the row `d` above it, where there is one. -/
def doubled (d : BitVec 32) (x : FVec Ideal S256x128 .f32) : FVec Ideal S256x128 .f32 :=
  addf x (select (cmpi .sge pos (broadcast S256x128 d)) (dynamicRotate 0 d none x rotates_S256x128_d0)
    (broadcast S256x128 (Scalar.ofBits .f32 0x00000000#32 : Ideal .f32)))

theorem doubled_apply (d : BitVec 32) (hd : d.toNat ≤ 128) (x : FVec Ideal S256x128 .f32) (r : Fin 256) (l : Fin 128) :
    (doubled d x (ix2 r l) : EReal) = x (ix2 r l) + if d.toNat ≤ r.val then x (ix2 ⟨r.val - d.toNat, by have := r.isLt; omega⟩ l) else 0 := by
  have hr := r.isLt
  pointwise [doubled]
  have e : IntOp.cmpi .sge (BitVec.ofNat 32 r.val) d = BitVec.ofBool (decide (d.toNat ≤ r.val)) := by
    conv_lhs => rw [show d = BitVec.ofNat 32 d.toNat by simp]
    exact WordCmp.cmpi_sge_ofNat (by omega) (by omega)
  rw [pos_apply, e, WordCmp.select_ofBool]
  refine congrArg ((x (ix2 r l) : EReal) + ·) ?_
  by_cases h : d.toNat ≤ r.val
  · rw [if_pos h, if_pos (by simpa using h)]
    exact congrArg (fun s => (x (ix2 s l) : EReal)) (Fin.ext (by simp only; omega))
  · rw [if_neg h, if_neg (by simpa using h)]

/-- The sum carried to the end of the block: seven doublings after the gates, then the carried row. -/
abbrev total (f : FVec Ideal S256x128 .f32) (k : Vec Ideal S1x128 .f32) : FVec Ideal S256x128 .f32 :=
  k0_pay3 pos (k0_pay27 f 256#32 k0_pay23 k0_pay24 k0_pay25) (k0_pay28 256#32 k0_pay23 k0_pay24 k0_pay25)
    (k0_pay29 f 256#32 k0_pay23 k0_pay24 k0_pay25) (Scalar.ofBits .f32 0#32) k

theorem total_eq (f : FVec Ideal S256x128 .f32) (k : Vec Ideal S1x128 .f32) :
    total f k = addf (doubled 128#32 (doubled 64#32 (doubled 32#32 (doubled 16#32 (doubled 8#32 (doubled 4#32 (doubled 2#32 (doubled 1#32 f))))))))
      (broadcastTo S256x128 k broadcasts_S1x128_S256x128) := rfl

theorem doubled_window (d : BitVec 32) (n : ℕ) (hd : d.toNat = n) (hn : n ≤ 128) (x : FVec Ideal S256x128 .f32) (g : ℕ → EReal) (l : Fin 128)
    (hx : ∀ r : Fin 256, (x (ix2 r l) : EReal) = Running.window g n r.val) (r : Fin 256) :
    (doubled d x (ix2 r l) : EReal) = Running.window g (n + n) r.val := by
  subst hd
  rw [doubled_apply d hn, ← Running.window_double, hx]
  split_ifs
  · rw [hx]
  · rfl

theorem total_apply (f : FVec Ideal S256x128 .f32) (k : Vec Ideal S1x128 .f32) (g : ℕ → EReal) (l : Fin 128)
    (hf : ∀ r : Fin 256, (f (ix2 r l) : EReal) = g r.val) (r : Fin 256) :
    (total f k (ix2 r l) : EReal) = (∑ s ∈ Finset.range (r.val + 1), g s) + k (ix2 0 l) := by
  rw [total_eq]
  refine Eq.trans (b := (doubled 128#32 (doubled 64#32 (doubled 32#32 (doubled 16#32 (doubled 8#32 (doubled 4#32 (doubled 2#32 (doubled 1#32 f))))))) (ix2 r l) : EReal) + k (ix2 0 l)) ?_ (congrArg (· + (k (ix2 0 l) : EReal)) ?_)
  · pointwise
  rw [← Running.window_all g 256 r.val r.isLt]
  refine doubled_window 128#32 128 rfl (by omega) _ g l (doubled_window 64#32 64 rfl (by omega) _ g l (doubled_window 32#32 32 rfl (by omega) _ g l
    (doubled_window 16#32 16 rfl (by omega) _ g l (doubled_window 8#32 8 rfl (by omega) _ g l (doubled_window 4#32 4 rfl (by omega) _ g l
      (doubled_window 2#32 2 rfl (by omega) _ g l (doubled_window 1#32 1 rfl (by omega) _ g l fun r => ?_))))))) r
  rw [Running.window_one]
  exact hf r

/-- The carried row: the block's last sums, in each of the eight rows. -/
theorem carry_apply (p : IVec S256x128 32) (f g : FVec Ideal S256x128 .f32) (q : IVec S256x128 1) (z : Ideal .f32) (k : Vec Ideal S1x128 .f32) (r : Fin 8) (l : Fin 128) :
    (k0_pay4 p f q g z k (ix2 r l) : EReal) = k0_pay3 p f q g z k (ix2 255 l) := by
  pointwise [k0_pay4]

/-- The block's sums, one row per head. -/
theorem sums_apply (p : IVec S256x128 32) (f g : FVec Ideal S256x128 .f32) (q : IVec S256x128 1) (z : Ideal .f32) (k : Vec Ideal S1x128 .f32) (h : Fin 16) (i : Fin 256) :
    (k0_pay5 p f q g z k (ix4 0 0 h i) : EReal) = k0_pay3 p f q g z k (ix2 i ⟨h.val, by have := h.isLt; omega⟩) := by
  pointwise [k0_pay5]

end Cert.Kernel3Ideal.Middle

end
-- ==== Proof.MiddleStep.lean ====
/-
  The middle call's grid steps: what each of the four cases leaves in the result windows, in the norm held for the next step, and in the carried row.
-/
module

public import proofs.«01_k».proof.Proof.Gen.Kernel3Ideal.Value
public import proofs.«01_k».proof.Proof.MiddlePay
public import Idealize.ShloMosaic.Lib.Pipeline.ValueKit
public import Idealize.ShloMosaic.Lib.Pipeline.ReadBack

@[expose] public section

set_option maxRecDepth 16384

noncomputable section

namespace Cert.Kernel3Ideal.Middle
open Cert.Kernel3Ideal Cert.Kernel3Ideal.Gen Idealize.ShloMosaic Idealize.ShloMosaic.TcCoe Cert.Spec
open scoped BigOperators

variable (m : (ℓ : Loc nD τ sig) → Buf (Elt Ideal) ℓ) (c : Dev nD)

/-! The windows of a step, and the parts of the weights that the step loads. -/

abbrev top (t : Fin cfg0.N) : Vec Ideal S512x1024 .bf16 := View.ld (iblk m c 3 t) (Rect.unit ![0, 0] ![512, 1024] inb_S1024x1024_S512x1024_0_0)
abbrev bottom (t : Fin cfg0.N) : Vec Ideal S512x1024 .bf16 := View.ld (iblk m c 3 t) (Rect.unit ![512, 0] ![512, 1024] inb_S1024x1024_S512x1024_512_0)

/-- The stream's block, and its norm. -/
def newStream (t : Fin cfg0.N) : Vec Ideal S256x1024 .f32 := k0_pay9 (iblk m c 1 t) (top m c t) (iblk m c 2 t) (bottom m c t) (iblk m c 0 t) (iblk m c 4 t)
def newHidden (t : Fin cfg0.N) : Vec Ideal S256x1024 .bf16 :=
  k0_pay12 (newStream m c t) (k0_pay10 (iblk m c 5 t)) (k0_pay11 (iblk m c 1 t) (top m c t) (iblk m c 2 t) (bottom m c t) (iblk m c 0 t) (iblk m c 4 t))

/-- What the point before left. -/
abbrev before (t : Fin cfg0.N) := outsAt0 m c (t.val - 1) (Nat.lt_of_le_of_lt (Nat.sub_le _ _) t.isLt)

/-- The row of running sums carried to a step: the first of the eight the kernel keeps. -/
def firstRow (x : Vec Ideal S8x128 .f32) : Vec Ideal S1x128 .f32 :=
  View.ld (Val := Elt Ideal) (e' := .f32) x (Rect.unit ![0, 0] ![1, 128] inb_S8x128_S1x128_0_0)

/-- The first of the eight rows that a sequence's first step zeroes. -/
theorem zeros_row {sig : RefSig} {κ : Kind} {sp : Space} (v : View sig κ sp S8x128 .f32) :
    v.readCov (Val := Elt Ideal) [⟨Rect.unit ![0, 0] ![8, 128] inb_S8x128_S8x128_0_0, k0_pay42 (F := Ideal)⟩] (Rect.unit ![0, 0] ![1, 128] inb_S8x128_S1x128_0_0).toLoadRect
      = firstRow (k0_pay2 (F := Ideal)) := by
  rw [View.readCov_eq_canon_ld _ _ _ fun y => ⟨_, List.mem_singleton_self _, View.mem_set_unit_zero (by funext a; fin_cases a <;> rfl) inb_S8x128_S8x128_0_0 y⟩]
  exact congrArg firstRow (View.canon_cons_unit_lit _ _ _ (by decide))

/-- A section of columns of the projection, stored as its two halves. -/
def columns (f g : FVec Ideal S256x512 .bf16) : Vec Ideal S256x1024 .bf16 :=
  View.canon [⟨Rect.unit ![0, 512] ![256, 512] inb_S256x1024_S256x512_0_512, g⟩, ⟨Rect.unit ![0, 0] ![256, 512] inb_S256x1024_S256x512_0_0, f⟩]

/-- A step's gates, from the norm of the block before. -/
abbrev gatesOf (t : Fin cfg0.N) (h : Vec Ideal S256x1024 .bf16) : FVec Ideal S256x128 .f32 :=
  k0_pay22 h (View.ld (iblk m c 6 t) (Rect.unit ![0, 4096] ![1024, 128] inb_S1024x4224_S1024x128_0_4096)) (iblk m c 7 t)

/-- What a step leaves in its windows and in the carried row, from the norm `h` of the block before and the row `k` carried to it. -/
structure Leaves (t : Fin cfg0.N) (h : Vec Ideal S256x1024 .bf16) (row : Vec Ideal S1x128 .f32) : Prop where
  q : (outsAt0 m c t.val t.isLt).2.1 = columns (k0_pay13 h (View.ld (iblk m c 6 t) (Rect.unit ![0, 0] ![1024, 512] inb_S1024x4224_S1024x512_0_0)))
    (k0_pay17 h (View.ld (iblk m c 6 t) (Rect.unit ![0, 512] ![1024, 512] inb_S1024x4224_S1024x512_0_512)))
  k : (outsAt0 m c t.val t.isLt).2.2.1 = columns (k0_pay14 h (View.ld (iblk m c 6 t) (Rect.unit ![0, 1024] ![1024, 512] inb_S1024x4224_S1024x512_0_1024)))
    (k0_pay18 h (View.ld (iblk m c 6 t) (Rect.unit ![0, 1536] ![1024, 512] inb_S1024x4224_S1024x512_0_1536)))
  v : (outsAt0 m c t.val t.isLt).2.2.2.1 = columns (k0_pay15 h (View.ld (iblk m c 6 t) (Rect.unit ![0, 2048] ![1024, 512] inb_S1024x4224_S1024x512_0_2048)))
    (k0_pay19 h (View.ld (iblk m c 6 t) (Rect.unit ![0, 2560] ![1024, 512] inb_S1024x4224_S1024x512_0_2560)))
  z : (outsAt0 m c t.val t.isLt).2.2.2.2.1 = columns (k0_pay16 h (View.ld (iblk m c 6 t) (Rect.unit ![0, 3072] ![1024, 512] inb_S1024x4224_S1024x512_0_3072)))
    (k0_pay20 h (View.ld (iblk m c 6 t) (Rect.unit ![0, 3584] ![1024, 512] inb_S1024x4224_S1024x512_0_3584)))
  sums : (outsAt0 m c t.val t.isLt).2.2.2.2.2.1 = k0_pay5 pos (k0_pay27 (gatesOf m c t h) 256#32 k0_pay23 k0_pay24 k0_pay25) (k0_pay28 256#32 k0_pay23 k0_pay24 k0_pay25)
    (k0_pay29 (gatesOf m c t h) 256#32 k0_pay23 k0_pay24 k0_pay25) (Scalar.ofBits .f32 0#32) row
  carry : (outsAt0 m c t.val t.isLt).2.2.2.2.2.2.2.2 = k0_pay4 pos (k0_pay27 (gatesOf m c t h) 256#32 k0_pay23 k0_pay24 k0_pay25) (k0_pay28 256#32 k0_pay23 k0_pay24 k0_pay25)
    (k0_pay29 (gatesOf m c t h) 256#32 k0_pay23 k0_pay24 k0_pay25) (Scalar.ofBits .f32 0#32) row

theorem stream_A (t : Fin cfg0.N) (h0 : t.val % 257 = 0) (h1 : t.val % 2 = 0) : (outsAt0 m c t.val t.isLt).1 = newStream m c t := by
  rw [outsAt0_A m c t h0 h1 (by omega) (by omega)]
  dsimp only
  frame_out
  rfl

theorem hidden_A (t : Fin cfg0.N) (h0 : t.val % 257 = 0) (h1 : t.val % 2 = 0) : (outsAt0 m c t.val t.isLt).2.2.2.2.2.2.1 = newHidden m c t := by
  rw [outsAt0_A m c t h0 h1 (by omega) (by omega)]
  dsimp only
  frame_out
  rfl

theorem stream_B (t : Fin cfg0.N) (h0 : ¬t.val % 257 = 0) (h1 : t.val % 8 = 1) : (outsAt0 m c t.val t.isLt).1 = newStream m c t := by
  rw [outsAt0_B m c t h0 (by omega) (by omega) h1]
  dsimp only
  frame_out
  rfl

theorem hidden_B (t : Fin cfg0.N) (h0 : ¬t.val % 257 = 0) (h1 : t.val % 8 = 1) : (outsAt0 m c t.val t.isLt).2.2.2.2.2.2.2.1 = newHidden m c t := by
  rw [outsAt0_B m c t h0 (by omega) (by omega) h1]
  dsimp only
  frame_out
  rfl

theorem leaves_B (t : Fin cfg0.N) (h0 : ¬t.val % 257 = 0) (h1 : t.val % 8 = 1) : Leaves m c t (before m c t).2.2.2.2.2.2.1 (firstRow (k0_pay2 (F := Ideal))) := by
  constructor
  · rw [outsAt0_B m c t h0 (by omega) (by omega) h1]
    dsimp only
    unfold columns
    frame_out
    simp only [read_unread_whole]
    rfl
  · rw [outsAt0_B m c t h0 (by omega) (by omega) h1]
    dsimp only
    unfold columns
    frame_out
    simp only [read_unread_whole]
    rfl
  · rw [outsAt0_B m c t h0 (by omega) (by omega) h1]
    dsimp only
    unfold columns
    frame_out
    simp only [read_unread_whole]
    rfl
  · rw [outsAt0_B m c t h0 (by omega) (by omega) h1]
    dsimp only
    unfold columns
    frame_out
    simp only [read_unread_whole]
    rfl
  · rw [outsAt0_B m c t h0 (by omega) (by omega) h1]
    dsimp only
    frame_out
    simp only [read_unread_whole]
    rw [zeros_row]
    rfl
  · rw [outsAt0_B m c t h0 (by omega) (by omega) h1]
    dsimp only
    frame_out
    simp only [read_unread_whole]
    rw [zeros_row]
    rfl

theorem stream_C (t : Fin cfg0.N) (h0 : ¬t.val % 257 = 0) (h1 : t.val % 2 = 0) : (outsAt0 m c t.val t.isLt).1 = newStream m c t := by
  rw [outsAt0_C m c t h0 h1 (by omega) (by omega)]
  dsimp only
  frame_out
  rfl

theorem hidden_C (t : Fin cfg0.N) (h0 : ¬t.val % 257 = 0) (h1 : t.val % 2 = 0) : (outsAt0 m c t.val t.isLt).2.2.2.2.2.2.1 = newHidden m c t := by
  rw [outsAt0_C m c t h0 h1 (by omega) (by omega)]
  dsimp only
  frame_out
  rfl

theorem leaves_C (t : Fin cfg0.N) (h0 : ¬t.val % 257 = 0) (h1 : t.val % 2 = 0) : Leaves m c t (before m c t).2.2.2.2.2.2.2.1 (firstRow (before m c t).2.2.2.2.2.2.2.2) := by
  constructor
  · rw [outsAt0_C m c t h0 h1 (by omega) (by omega)]
    dsimp only
    unfold columns
    frame_out
    simp only [read_unread_whole]
    rfl
  · rw [outsAt0_C m c t h0 h1 (by omega) (by omega)]
    dsimp only
    unfold columns
    frame_out
    simp only [read_unread_whole]
    rfl
  · rw [outsAt0_C m c t h0 h1 (by omega) (by omega)]
    dsimp only
    unfold columns
    frame_out
    simp only [read_unread_whole]
    rfl
  · rw [outsAt0_C m c t h0 h1 (by omega) (by omega)]
    dsimp only
    unfold columns
    frame_out
    simp only [read_unread_whole]
    rfl
  · rw [outsAt0_C m c t h0 h1 (by omega) (by omega)]
    dsimp only
    frame_out
    simp only [read_unread_whole]
    rfl
  · rw [outsAt0_C m c t h0 h1 (by omega) (by omega)]
    dsimp only
    frame_out
    simp only [read_unread_whole]
    rfl

theorem stream_D (t : Fin cfg0.N) (h0 : ¬t.val % 257 = 0) (h1 : t.val % 2 = 1) (h2 : ¬t.val % 8 = 1) : (outsAt0 m c t.val t.isLt).1 = newStream m c t := by
  rw [outsAt0_D m c t h0 (by omega) h1 h2]
  dsimp only
  frame_out
  rfl

theorem hidden_D (t : Fin cfg0.N) (h0 : ¬t.val % 257 = 0) (h1 : t.val % 2 = 1) (h2 : ¬t.val % 8 = 1) : (outsAt0 m c t.val t.isLt).2.2.2.2.2.2.2.1 = newHidden m c t := by
  rw [outsAt0_D m c t h0 (by omega) h1 h2]
  dsimp only
  frame_out
  rfl

theorem leaves_D (t : Fin cfg0.N) (h0 : ¬t.val % 257 = 0) (h1 : t.val % 2 = 1) (h2 : ¬t.val % 8 = 1) : Leaves m c t (before m c t).2.2.2.2.2.2.1 (firstRow (before m c t).2.2.2.2.2.2.2.2) := by
  constructor
  · rw [outsAt0_D m c t h0 (by omega) h1 h2]
    dsimp only
    unfold columns
    frame_out
    simp only [read_unread_whole]
    rfl
  · rw [outsAt0_D m c t h0 (by omega) h1 h2]
    dsimp only
    unfold columns
    frame_out
    simp only [read_unread_whole]
    rfl
  · rw [outsAt0_D m c t h0 (by omega) h1 h2]
    dsimp only
    unfold columns
    frame_out
    simp only [read_unread_whole]
    rfl
  · rw [outsAt0_D m c t h0 (by omega) h1 h2]
    dsimp only
    unfold columns
    frame_out
    simp only [read_unread_whole]
    rfl
  · rw [outsAt0_D m c t h0 (by omega) h1 h2]
    dsimp only
    frame_out
    simp only [read_unread_whole]
    rfl
  · rw [outsAt0_D m c t h0 (by omega) h1 h2]
    dsimp only
    frame_out
    simp only [read_unread_whole]
    rfl

/-! The cases together. -/

theorem stream_step (t : Fin cfg0.N) : (outsAt0 m c t.val t.isLt).1 = newStream m c t := by
  have hN : t.val < 257 := t.isLt
  by_cases h0 : t.val % 257 = 0
  · exact stream_A m c t h0 (by omega)
  by_cases h1 : t.val % 2 = 0
  · exact stream_C m c t h0 h1
  by_cases h2 : t.val % 8 = 1
  · exact stream_B m c t h0 h2
  · exact stream_D m c t h0 (by omega) h2

/-- The norm that a step leaves for the next one: in one of two buffers, in turn. -/
def held (t : Fin cfg0.N) : Vec Ideal S256x1024 .bf16 :=
  if t.val % 2 = 0 then (outsAt0 m c t.val t.isLt).2.2.2.2.2.2.1 else (outsAt0 m c t.val t.isLt).2.2.2.2.2.2.2.1

theorem held_step (t : Fin cfg0.N) : held m c t = newHidden m c t := by
  have hN : t.val < 257 := t.isLt
  unfold held
  by_cases h1 : t.val % 2 = 0
  · rw [if_pos h1]
    by_cases h0 : t.val % 257 = 0
    · exact hidden_A m c t h0 h1
    · exact hidden_C m c t h0 h1
  · rw [if_neg h1]
    by_cases h2 : t.val % 8 = 1
    · exact hidden_B m c t (by omega) h2
    · exact hidden_D m c t (by omega) (by omega) h2

/-- The point before. -/
abbrev pred (t : Fin cfg0.N) : Fin cfg0.N := ⟨t.val - 1, Nat.lt_of_le_of_lt (Nat.sub_le _ _) t.isLt⟩

/-- The row carried to a step: zeros at a sequence's first block, the first of the rows left by the step before otherwise. -/
def rowAt (t : Fin cfg0.N) : Vec Ideal S1x128 .f32 :=
  if t.val % 8 = 1 then firstRow (k0_pay2 (F := Ideal)) else firstRow (before m c t).2.2.2.2.2.2.2.2

theorem leaves (t : Fin cfg0.N) (ht : t.val ≠ 0) : Leaves m c t (newHidden m c (pred t)) (rowAt m c t) := by
  have hN : t.val < 257 := t.isLt
  have h0 : ¬t.val % 257 = 0 := by omega
  rw [← held_step]
  unfold rowAt held
  by_cases h1 : t.val % 2 = 0
  · rw [if_neg (by omega : ¬t.val % 8 = 1), if_neg (by show ¬(t.val - 1) % 2 = 0; omega)]
    exact leaves_C m c t h0 h1
  · rw [if_pos (by show (t.val - 1) % 2 = 0; omega)]
    by_cases h2 : t.val % 8 = 1
    · rw [if_pos h2]
      exact leaves_B m c t h0 h2
    · rw [if_neg h2]
      exact leaves_D m c t h0 (by omega) h2

end Cert.Kernel3Ideal.Middle

end
-- ==== Proof.MiddleKernel.lean ====
/-
  The middle call's kernel: its step values as rows of the stage, the running sums along the grid, and the six result arrays after the run.
-/
module

public import proofs.«01_k».proof.Proof.MiddleHost
public import proofs.«01_k».proof.Proof.MiddleStep

@[expose] public section

set_option maxRecDepth 16384

noncomputable section

namespace Cert.Kernel3Ideal.Middle

open Cert.Kernel3Ideal Cert.Kernel3Ideal.Gen Idealize.ShloMosaic Idealize.ShloMosaic.TcCoe Cert.Spec
open scoped BigOperators

variable (m : (ℓ : Loc nD τ sig) → Buf (Elt Ideal) ℓ) (c : Dev nD)

/-- The launch's arguments as the stage's. -/
def stage : Stage where
  x r l := X m c (ix2 r l)
  oa r l := OA m c (ix2 r l)
  ob r l := OB m c (ix2 r l)
  wout k l := W m c (ix2 k l)
  post l := G m c (ix2 0 l)
  pre l := G' m c (ix2 1 l)
  win k l := U m c (ix2 k l)
  bias h := B m c (ix1 h)

/-! ## A step's own block -/

theorem top_apply (t : Fin cfg0.N) (k : Fin 512) (l : Fin 1024) : (top m c t (ix2 k l) : EReal) = W m c (ix2 ⟨k.val, by omega⟩ l) :=
  (View.ld_unit_apply_of (iblk m c 3 t) _ _ _ _ (ix2 ⟨k.val, by omega⟩ l) fun a => by fin_cases a <;> simp).trans
    ((iblk3 m c t _ _).trans (host_w m c _ _))

theorem bottom_apply (t : Fin cfg0.N) (k : Fin 512) (l : Fin 1024) : (bottom m c t (ix2 k l) : EReal) = W m c (ix2 ⟨512 + k.val, by omega⟩ l) :=
  (View.ld_unit_apply_of (iblk m c 3 t) _ _ _ _ (ix2 ⟨512 + k.val, by omega⟩ l) fun a => by fin_cases a <;> simp).trans
    ((iblk3 m c t _ _).trans (host_w m c _ _))

/-- The two halves' products are the joined rows' product. -/
theorem halves (u v : Vec Ideal S256x512 .bf16) (A B : Vec Ideal S512x1024 .bf16) (a b : Fin 512 → EReal) (w : Fin 1024 → Fin 1024 → EReal) (r : Fin 256) (j : Fin 1024)
    (hu : ∀ k, (u (ix2 r k) : EReal) = a k) (hv : ∀ k, (v (ix2 r k) : EReal) = b k) (hA : ∀ k : Fin 512, (A (ix2 k j) : EReal) = w ⟨k.val, by omega⟩ j)
    (hB : ∀ k : Fin 512, (B (ix2 k j) : EReal) = w ⟨512 + k.val, by omega⟩ j) :
    (∑ k : Fin 512, (u (ix2 r k) : EReal) * (A (ix2 k j) : EReal)) + ∑ k : Fin 512, (v (ix2 r k) : EReal) * (B (ix2 k j) : EReal) = times (joined a b) w j := by
  unfold times
  rw [Fin.sum_univ_two_halves 512 512 rfl]
  refine congrArg₂ (· + ·) (Finset.sum_congr rfl fun k _ => ?_) (Finset.sum_congr rfl fun k _ => ?_)
  · rw [hu, hA]
    unfold joined
    rw [dif_pos (by show k.val < 512; exact k.isLt)]
  · rw [hv, hB]
    unfold joined
    rw [dif_neg (by show ¬512 + k.val < 512; omega)]
    refine congrArg (· * w ⟨512 + k.val, _⟩ j) (congrArg b (Fin.ext ?_))
    show k.val = 512 + k.val - 512
    omega

theorem newStream_apply (t : Fin cfg0.N) (r : Fin 256) (l : Fin 1024) :
    (newStream m c t (ix2 r l) : EReal) = (stage m c).stream (token (block t) r) l := by
  refine (stream_apply (iblk m c 1 t) (iblk m c 2 t) (top m c t) (bottom m c t) (iblk m c 0 t) (iblk m c 4 t) r l).trans ?_
  refine congrArg₂ (· + ·) ((iblk0 m c t r l).trans (host_x m c _ _)) (congrFun (congrArg₂ rmsNorm (funext fun j => ?_) (funext fun j => ?_)) l)
  · exact halves (iblk m c 1 t) (iblk m c 2 t) (top m c t) (bottom m c t) _ _ (stage m c).wout r j (fun k => (iblk1 m c t r k).trans (host_oa m c _ _))
      (fun k => (iblk2 m c t r k).trans (host_ob m c _ _)) (fun k => top_apply m c t k j) (fun k => bottom_apply m c t k j)
  · exact (iblk4 m c t j).trans (host_g m c j)

theorem newHidden_apply (t : Fin cfg0.N) (r : Fin 256) (l : Fin 1024) :
    (newHidden m c t (ix2 r l) : EReal) = (stage m c).hidden (token (block t) r) l := by
  refine (hidden_apply _ _ _ _ _ _ _ r l).trans (congrFun (congrArg₂ rmsNorm (funext fun j => newStream_apply m c t r j) (funext fun j => ?_)) l)
  exact (iblk5 m c t j).trans (host_g' m c j)

/-! ## The projection's sections -/

/-- The norm of the block before times a column of the weights, both as the step holds them. -/
theorem proj_apply (s t : Fin cfg0.N) (o w : ℕ) (inb : ∀ a, ![0, o] a + ![1024, w] a ≤ S1024x4224.size a) (r : Fin 256) (l : Fin w) (h : o + l.val < 4112) :
    (∑ k : Fin 1024, (newHidden m c s (ix2 r k) : EReal) * (View.ld (iblk m c 6 t) (Rect.unit ![0, o] ![1024, w] inb) (ix2 k l) : EReal))
      = (stage m c).proj (token (block s) r) ⟨o + l.val, h⟩ := by
  refine Finset.sum_congr rfl fun k _ => congrArg₂ (· * ·) (newHidden_apply m c s r k) ?_
  exact (View.ld_unit_apply_of (iblk m c 6 t) _ _ _ _ (ix2 k ⟨o + l.val, by omega⟩) fun a => by fin_cases a <;> simp).trans
    ((iblk6 m c t _ _).trans (host_u m c k ⟨o + l.val, h⟩))

theorem columns_apply (f g : FVec Ideal S256x512 .bf16) (r : Fin 256) (l : Fin 1024) :
    (columns f g (ix2 r l) : EReal) = if h : l.val < 512 then f (ix2 r ⟨l.val, h⟩) else g (ix2 r ⟨l.val - 512, by omega⟩) := by
  unfold columns
  canon_tiles x h
  · obtain ⟨a, b, rfl⟩ : ∃ (a : Fin 256) (b : Fin 512), x = ix2 a b := ⟨x 0, x 1, eq_ix2 x⟩
    have e0 : r.val = a.val := h0
    have e1 : l.val = 512 + b.val := h1
    rw [dif_neg (by omega), show r = a from Fin.ext e0]
    exact congrArg (fun q => g (ix2 a q)) (Fin.ext (by show b.val = l.val - 512; omega))
  · obtain ⟨a, b, rfl⟩ : ∃ (a : Fin 256) (b : Fin 512), x = ix2 a b := ⟨x 0, x 1, eq_ix2 x⟩
    have e0 : r.val = a.val := h0
    have e1 : l.val = b.val := h1
    have hb := b.isLt
    rw [dif_pos (by omega), show r = a from Fin.ext e0]
    exact congrArg (fun q => f (ix2 a q)) (Fin.ext e1.symm)

theorem section_apply (s t : Fin cfg0.N) (o : ℕ) (ho : o + 1024 ≤ 4112) (inb : ∀ a, ![0, o] a + ![1024, 512] a ≤ S1024x4224.size a)
    (inb' : ∀ a, ![0, o + 512] a + ![1024, 512] a ≤ S1024x4224.size a) (r : Fin 256) (l : Fin 1024) :
    (columns (k0_pay14 (newHidden m c s) (View.ld (iblk m c 6 t) (Rect.unit ![0, o] ![1024, 512] inb)))
      (k0_pay14 (newHidden m c s) (View.ld (iblk m c 6 t) (Rect.unit ![0, o + 512] ![1024, 512] inb'))) (ix2 r l) : EReal)
      = (stage m c).proj (token (block s) r) ⟨o + l.val, by omega⟩ := by
  rw [columns_apply]
  split_ifs with h
  · exact (column_apply _ _ r _).trans (proj_apply m c s t o 512 inb r ⟨l.val, h⟩ (by show o + l.val < 4112; omega))
  · refine (column_apply _ _ r _).trans ((proj_apply m c s t (o + 512) 512 inb' r ⟨l.val - 512, by omega⟩ (by show o + 512 + (l.val - 512) < 4112; omega)).trans ?_)
    exact congrArg _ (Fin.ext (by show o + 512 + (l.val - 512) = o + l.val; omega))

theorem query_section (s t : Fin cfg0.N) (inb : ∀ a, ![0, 0] a + ![1024, 512] a ≤ S1024x4224.size a)
    (inb' : ∀ a, ![0, 512] a + ![1024, 512] a ≤ S1024x4224.size a) (r : Fin 256) (l : Fin 1024) :
    (columns (k0_pay13 (newHidden m c s) (View.ld (iblk m c 6 t) (Rect.unit ![0, 0] ![1024, 512] inb)))
      (k0_pay13 (newHidden m c s) (View.ld (iblk m c 6 t) (Rect.unit ![0, 512] ![1024, 512] inb'))) (ix2 r l) : EReal)
      = (stage m c).proj (token (block s) r) ⟨l.val, by omega⟩ * (((8 * Real.log 2)⁻¹ : ℝ) : EReal) := by
  rw [columns_apply]
  split_ifs with h
  · refine (query_apply _ _ r _).trans (congrArg (· * (((8 * Real.log 2)⁻¹ : ℝ) : EReal)) ?_)
    refine (proj_apply m c s t 0 512 inb r ⟨l.val, h⟩ (by show 0 + l.val < 4112; omega)).trans ?_
    exact congrArg _ (Fin.ext (by show 0 + l.val = l.val; omega))
  · refine (query_apply _ _ r _).trans (congrArg (· * (((8 * Real.log 2)⁻¹ : ℝ) : EReal)) ?_)
    refine (proj_apply m c s t 512 512 inb' r ⟨l.val - 512, by omega⟩ (by show 512 + (l.val - 512) < 4112; omega)).trans ?_
    exact congrArg _ (Fin.ext (by show 512 + (l.val - 512) = l.val; omega))

/-! ## The running sums -/

theorem gates_add (a : Stage) (b : Fin 32) (n k : ℕ) (h : Fin 16) :
    a.gates b (n + k) h = (∑ s ∈ Finset.range k, a.gate (Fin.ofNat 65536 (2048 * b.val + (n + s))) h) + a.gates b n h := by
  unfold Stage.gates
  rw [Finset.sum_range_add, add_comm]

/-- A head's lane among 128. -/
abbrev lane (h : Fin 16) : Fin 128 := ⟨h.val, by omega⟩

/-- The sequence of a step's block, and the tokens of the sequence before it. -/
abbrev seqOf (t : Fin cfg0.N) : Fin 32 := ⟨(t.val - 1) / 8, by have : t.val < 257 := t.isLt; omega⟩
abbrev past (t : Fin cfg0.N) : ℕ := 256 * ((t.val - 1) % 8)

theorem gatesOf_apply (t : Fin cfg0.N) (r : Fin 256) (h : Fin 16) :
    (gatesOf m c t (newHidden m c (pred t)) (ix2 r (lane h)) : EReal)
      = (stage m c).gate (Fin.ofNat 65536 (2048 * (seqOf t).val + (past t + r.val))) h := by
  have ht : t.val < 257 := t.isLt
  refine (gate_apply _ _ _ r (lane h)).trans ?_
  rw [iblk7, show (V m c main_v12 (ix2 0 (lane h)) : EReal) = B m c (ix1 h) from host_b m c h]
  refine Eq.trans (congrArg (fun e => logSigmoid (e + (B m c (ix1 h) : EReal))) (proj_apply m c (pred t) t 4096 128 _ r (lane h) (by show 4096 + h.val < 4112; omega))) ?_
  show (stage m c).gate (token (block (pred t)) r) h = _
  refine congrArg (fun q => (stage m c).gate q h) (Fin.ext ?_)
  show 256 * min (t.val - 1) 255 + r.val = (2048 * ((t.val - 1) / 8) + (256 * ((t.val - 1) % 8) + r.val)) % 65536
  omega

theorem total_row (t : Fin cfg0.N) (row : Vec Ideal S1x128 .f32) (h : Fin 16) (hrow : (row (ix2 0 (lane h)) : EReal) = (stage m c).gates (seqOf t) (past t) h) (r : Fin 256) :
    (total (gatesOf m c t (newHidden m c (pred t))) row (ix2 r (lane h)) : EReal) = (stage m c).gates (seqOf t) (past t + (r.val + 1)) h := by
  rw [total_apply _ row (fun s => (stage m c).gate (Fin.ofNat 65536 (2048 * (seqOf t).val + (past t + s))) h) (lane h) (fun r => gatesOf_apply m c t r h) r,
    gates_add, hrow]

theorem firstRow_apply (x : Vec Ideal S8x128 .f32) (l : Fin 128) : (firstRow x (ix2 0 l) : EReal) = x (ix2 0 l) :=
  View.ld_unit_apply_of _ _ _ _ _ _ fun a => by fin_cases a <;> simp

theorem zeros_apply (l : Fin 128) : (firstRow (k0_pay2 (F := Ideal)) (ix2 0 l) : EReal) = 0 := by
  rw [firstRow_apply]
  pointwise [k0_pay2]

/-- The row carried to a step holds the gates of its sequence's tokens before its block. -/
theorem rowAt_apply (h : Fin 16) : ∀ (n : ℕ) (t : Fin cfg0.N), t.val = n + 1 → (rowAt m c t (ix2 0 (lane h)) : EReal) = (stage m c).gates (seqOf t) (past t) h := by
  have zero : ∀ t : Fin cfg0.N, t.val % 8 = 1 → (rowAt m c t (ix2 0 (lane h)) : EReal) = (stage m c).gates (seqOf t) (past t) h := by
    intro t ht
    unfold rowAt Stage.gates
    rw [if_pos ht, zeros_apply, show past t = 0 by unfold past; omega, Finset.range_zero, Finset.sum_empty]
  intro n
  induction n with
  | zero => exact fun t ht => zero t (by omega)
  | succ n ih =>
    intro t ht
    by_cases h1 : t.val % 8 = 1
    · exact zero t h1
    have hp : (pred t).val = n + 1 := by show t.val - 1 = n + 1; omega
    unfold rowAt
    rw [if_neg h1, firstRow_apply, (leaves m c (pred t) (by omega)).carry, carry_apply]
    refine (total_row m c (pred t) _ h (ih (pred t) hp) 255).trans ?_
    rw [show seqOf (pred t) = seqOf t from Fin.ext (by show (t.val - 1 - 1) / 8 = (t.val - 1) / 8; omega),
      show past (pred t) + ((255 : Fin 256).val + 1) = past t by show 256 * ((t.val - 1 - 1) % 8) + 256 = 256 * ((t.val - 1) % 8); omega]

/-! ## The result arrays -/

/-- A section of 1024 columns of the projection, from column `o`. -/
def columnsOf (a : Stage) (o : ℕ) (ho : o + 1024 ≤ 4112) (r : Fin 65536) (l : Fin 1024) : EReal := a.proj r ⟨o + l.val, by omega⟩

/-- The first section, in the scale of the base-two softmax. -/
def queriesOf (a : Stage) (r : Fin 65536) (l : Fin 1024) : EReal := a.proj r ⟨l.val, by omega⟩ * (((8 * Real.log 2)⁻¹ : ℝ) : EReal)

/-- The running sums, in blocks of 512 tokens. -/
def sumsOf (a : Stage) (b : Fin 32) (k : Fin 4) (h : Fin 16) (j : Fin 512) : EReal := a.gates b (512 * k.val + j.val + 1) h

theorem flush_pos : ∀ t : Fin cfg0.N, (cfg0.win 9).flush t = true ∨ (cfg0.win 10).flush t = true ∨ (cfg0.win 11).flush t = true ∨ (cfg0.win 12).flush t = true
    ∨ (cfg0.win 13).flush t = true → t.val ≠ 0 := by decide +kernel

theorem result_stream : (dats m 0 c).arrAt 8 cfg0.N = fun i : S65536x1024.Idx => (stage m c).stream (i 0) (i 1) := by
  refine (dats m 0 c).arrAt_eq_of_covers 8 _ covers8 fun t hf y => ?_
  blk_simp
  rw [after0_8, stream_step]
  obtain ⟨r, l, rfl⟩ : ∃ (r : Fin 256) (l : Fin 1024), y = ix2 r l := ⟨y 0, y 1, eq_ix2 y⟩
  refine (newStream_apply m c t r l).trans ?_
  have e : (win0_8.blk t).view.emb (ix2 r l) = ix2 (token (block t) r) l := by blk_ext [idx_rows t]
  rw [e]
  rfl

theorem result_q : (dats m 0 c).arrAt 9 cfg0.N = fun i : S65536x1024.Idx =>
    queriesOf (stage m c) (i 0) (i 1) := by
  refine (dats m 0 c).arrAt_eq_of_covers 9 _ covers9 fun t hf y => ?_
  blk_simp
  have ht : t.val < 257 := t.isLt
  rw [after0_9, (leaves m c t (flush_pos t (Or.inl hf))).q]
  obtain ⟨r, l, rfl⟩ : ∃ (r : Fin 256) (l : Fin 1024), y = ix2 r l := ⟨y 0, y 1, eq_ix2 y⟩
  refine (query_section m c (pred t) t _ _ r l).trans ?_
  have e : (win0_9.blk t).view.emb (ix2 r l) = ix2 (token (block (pred t)) r) l := by blk_ext [idx_before t]
  rw [e]
  rfl

theorem result_k : (dats m 0 c).arrAt 10 cfg0.N = fun i : S65536x1024.Idx =>
    columnsOf (stage m c) 1024 (by omega) (i 0) (i 1) := by
  refine (dats m 0 c).arrAt_eq_of_covers 10 _ covers10 fun t hf y => ?_
  blk_simp
  have ht : t.val < 257 := t.isLt
  rw [after0_10, (leaves m c t (flush_pos t (Or.inr (Or.inl hf)))).k]
  obtain ⟨r, l, rfl⟩ : ∃ (r : Fin 256) (l : Fin 1024), y = ix2 r l := ⟨y 0, y 1, eq_ix2 y⟩
  refine (section_apply m c (pred t) t 1024 (by omega) _ _ r l).trans ?_
  have e : (win0_10.blk t).view.emb (ix2 r l) = ix2 (token (block (pred t)) r) l := by blk_ext [idx_before t]
  rw [e]
  rfl

theorem result_v : (dats m 0 c).arrAt 11 cfg0.N = fun i : S65536x1024.Idx =>
    columnsOf (stage m c) 2048 (by omega) (i 0) (i 1) := by
  refine (dats m 0 c).arrAt_eq_of_covers 11 _ covers11 fun t hf y => ?_
  blk_simp
  have ht : t.val < 257 := t.isLt
  rw [after0_11, (leaves m c t (flush_pos t (Or.inr (Or.inr (Or.inl hf))))).v]
  obtain ⟨r, l, rfl⟩ : ∃ (r : Fin 256) (l : Fin 1024), y = ix2 r l := ⟨y 0, y 1, eq_ix2 y⟩
  refine (section_apply m c (pred t) t 2048 (by omega) _ _ r l).trans ?_
  have e : (win0_11.blk t).view.emb (ix2 r l) = ix2 (token (block (pred t)) r) l := by blk_ext [idx_before t]
  rw [e]
  rfl

theorem result_z : (dats m 0 c).arrAt 12 cfg0.N = fun i : S65536x1024.Idx =>
    columnsOf (stage m c) 3072 (by omega) (i 0) (i 1) := by
  refine (dats m 0 c).arrAt_eq_of_covers 12 _ covers12 fun t hf y => ?_
  blk_simp
  have ht : t.val < 257 := t.isLt
  rw [after0_12, (leaves m c t (flush_pos t (Or.inr (Or.inr (Or.inr (Or.inl hf)))))).z]
  obtain ⟨r, l, rfl⟩ : ∃ (r : Fin 256) (l : Fin 1024), y = ix2 r l := ⟨y 0, y 1, eq_ix2 y⟩
  refine (section_apply m c (pred t) t 3072 (by omega) _ _ r l).trans ?_
  have e : (win0_12.blk t).view.emb (ix2 r l) = ix2 (token (block (pred t)) r) l := by blk_ext [idx_before t]
  rw [e]
  rfl

theorem result_sums : (dats m 0 c).arrAt 13 cfg0.N = fun i : S32x4x16x512.Idx => sumsOf (stage m c) (i 0) (i 1) (i 2) (i 3) := by
  refine (dats m 0 c).arrAt_eq_of_covers 13 _ covers13 fun t hf y => ?_
  blk_simp
  have ht : t.val < 257 := t.isLt
  have hp : t.val ≠ 0 := flush_pos t (Or.inr (Or.inr (Or.inr (Or.inr hf))))
  rw [after0_13, (leaves m c t hp).sums]
  obtain ⟨a, b, h, r, rfl⟩ : ∃ (a : Fin 1) (b : Fin 1) (h : Fin 16) (r : Fin 256), y = ix4 a b h r := ⟨y 0, y 1, y 2, y 3, eq_ix4 y⟩
  obtain rfl : a = 0 := Subsingleton.elim _ _
  obtain rfl : b = 0 := Subsingleton.elim _ _
  refine (sums_apply _ _ _ _ _ _ h r).trans ((total_row m c t _ h (rowAt_apply m c h (t.val - 1) t (by omega)) r).trans ?_)
  have e : (win0_13.blk t).view.emb (ix4 0 0 h r) = ix4 (seqOf t) ⟨(t.val - 1) % 8 / 2, by omega⟩ h ⟨256 * ((t.val - 1) % 2) + r.val, by omega⟩ := by
    blk_ext [idx_sums t]
  rw [e]
  show (stage m c).gates (seqOf t) (past t + (r.val + 1)) h = (stage m c).gates (seqOf t) (512 * ((t.val - 1) % 8 / 2) + (256 * ((t.val - 1) % 2) + r.val) + 1) h
  refine congrArg (fun n => (stage m c).gates (seqOf t) n h) ?_
  show 256 * ((t.val - 1) % 8) + (r.val + 1) = 512 * ((t.val - 1) % 8 / 2) + (256 * ((t.val - 1) % 2) + r.val) + 1
  omega

end Cert.Kernel3Ideal.Middle

end
-- ==== Proof.MiddleReference.lean ====
/-
  The middle stage's reference, at an index: the stream, the columns of the next projection, and the running sums of the forget gates in blocks of 512 tokens.
-/
module

public import proofs.«01_k».proof.Proof.Gen.Reference3Ideal.Run
public import proofs.«01_k».proof.Proof.Middle
public import proofs.«01_k».proof.Proof.Running
public import Idealize.ShloMosaic.Lib.Pointwise

@[expose] public section

set_option maxRecDepth 16384

noncomputable section

namespace Cert.Reference3Ideal.Middle

open Cert.Reference3Ideal Cert.Reference3Ideal.Gen Idealize.ShloMosaic Idealize.ShloMosaic.TcCoe Idealize.ShloMosaic.StableHlo
open Cert.Spec
open scoped BigOperators

/-- The two attentions' rows, projected. -/
def prod (oa ob : FVec Ideal S65536x512 .bf16) (W : FVec Ideal S1024x1024 .f32) : FVec Ideal S65536x1024 .f32 :=
  Host.dotGeneral dot_S65536x1024_S1024x1024_S65536x1024_1_0_0_1_n_n none
    (extf .f32 (concatenate S65536x1024 1 [⟨S65536x512, oa⟩, ⟨S65536x512, ob⟩] concatenates_S65536x512_S65536x512_S65536x1024_d1) bitsLt_bf16_f32) W

/-- The norm's factor of each row. -/
abbrev factor (y : FVec Ideal S65536x1024 .f32) : FVec Ideal S65536x1 .f32 :=
  Host.rsqrt (addf (Host.divf (broadcastInDim S65536x1 ![0] bcast_S65536_S65536x1_0
      (Host.reduceAdd (mulf y y) (constant S_ .f32 0x00000000#32) reducesTo_S65536x1024_S65536_d1 h_S_))
    (broadcastInDim S65536x1 ![] bcast_S_S65536x1 (constant S_ .f32 0x44800000#32)))
    (broadcastInDim S65536x1 ![] bcast_S_S65536x1 (constant S_ .f32 0x358637BD#32)))

/-- The norm of every row, with one row of the weights. -/
abbrev normed (y : FVec Ideal S65536x1024 .f32) (g : FVec Ideal S1x1024 .f32) : FVec Ideal S65536x1024 .f32 :=
  mulf (mulf y (broadcastInDim S65536x1024 ![0, 1] bcast_S65536x1_S65536x1024_0_1 (factor y)))
    (broadcastInDim S65536x1024 ![0, 1] bcast_S1x1024_S65536x1024_0_1 (broadcastInDim S1x1024 ![1] bcast_S1024_S1x1024_1
      (shapeCast _ g shapeCasts_S1x1024_S1024)))

def stream (x y : FVec Ideal S65536x1024 .f32) (g : FVec Ideal S2x1024 .f32) : FVec Ideal S65536x1024 .f32 :=
  addf x (normed y (extractStridedSlice S1x1024 ![0, 0] g slices_S2x1024_S1x1024_0_0))

def proj (s : FVec Ideal S65536x1024 .f32) (g : FVec Ideal S2x1024 .f32) (W : FVec Ideal S1024x4112 .f32) : FVec Ideal S65536x4112 .f32 :=
  Host.dotGeneral dot_S65536x1024_S1024x4112_S65536x4112_1_0_0_1_n_n none (normed s (extractStridedSlice S1x1024 ![1, 0] g slices_S2x1024_S1x1024_1_0)) W

def gate (p : FVec Ideal S65536x4112 .f32) (b : FVec Ideal S16 .f32) : FVec Ideal S65536x16 .f32 :=
  addf (extractStridedSlice S65536x16 ![0, 4096] p slices_S65536x4112_S65536x16_0_4096)
    (broadcastInDim S65536x16 ![0, 1] bcast_S1x16_S65536x16_0_1 (broadcastInDim S1x16 ![1] bcast_S16_S1x16_1 b))

abbrev zeros : FVec Ideal S65536x16 .f32 := broadcastInDim S65536x16 ![] bcast_S_S65536x16 (constant S_ .f32 0x00000000#32)

def logSig (f : FVec Ideal S65536x16 .f32) : FVec Ideal S65536x16 .f32 :=
  Host.negf (select (cmpf .une (subf (Host.negf f) zeros) (subf (Host.negf f) zeros)) (addf (Host.negf f) zeros)
    (addf (maximumf (Host.negf f) zeros) (Host.log1p (Host.exp (Host.negf (Host.absf (subf (Host.negf f) zeros)))))))

theorem prod_apply (oa ob : FVec Ideal S65536x512 .bf16) (W : FVec Ideal S1024x1024 .f32) (r : Fin 65536) (l : Fin 1024) :
    (prod oa ob W (ix2 r l) : EReal) = times (joined (fun j => oa (ix2 r j)) (fun j => ob (ix2 r j))) (fun k j => W (ix2 k j)) l := by
  unfold times joined
  pointwise [prod]

theorem normed_apply (y : FVec Ideal S65536x1024 .f32) (g : FVec Ideal S1x1024 .f32) (r : Fin 65536) (l : Fin 1024) :
    (normed y g (ix2 r l) : EReal) = rmsNorm (fun j => y (ix2 r j)) (fun j => g (ix2 0 j)) l := by
  unfold rmsNorm
  pointwise
theorem gate_apply (p : FVec Ideal S65536x4112 .f32) (b : FVec Ideal S16 .f32) (r : Fin 65536) (h : Fin 16) :
    (gate p b (ix2 r h) : EReal) = p (ix2 r ⟨4096 + h.val, by have := h.isLt; omega⟩) + b (ix1 h) := by
  pointwise [gate]

theorem logSig_apply (f : FVec Ideal S65536x16 .f32) (r : Fin 65536) (h : Fin 16) :
    (logSig f (ix2 r h) : EReal) = logSigmoid (f (ix2 r h)) := by
  unfold logSigmoid
  pointwise [logSig]
  rw [if_neg fun h => h rfl]
  rfl

/-- Query, key, value and gate columns. -/
def qcols (p : FVec Ideal S65536x4112 .f32) : FVec Ideal S65536x1024 .bf16 :=
  truncf .bf16 (mulf (extractStridedSlice S65536x1024 ![0, 0] p slices_S65536x4112_S65536x1024_0_0)
    (broadcastInDim S65536x1024 ![] bcast_S_S65536x1024 (Host.divf (constant S_ .f32 0x3E000000#32) (Host.log (constant S_ .f32 0x40000000#32))))) bitsLt_bf16_f32

theorem qcols_apply (p : FVec Ideal S65536x4112 .f32) (r : Fin 65536) (l : Fin 1024) :
    (qcols p (ix2 r l) : EReal) = p (ix2 r ⟨l.val, by have := l.isLt; omega⟩) * (((8 * Real.log 2)⁻¹ : ℝ) : EReal) := by
  pointwise [qcols]
  rw [Softmax.eighth, Softmax.two, Softmax.scale]
  exact congrArg (fun y : ℝ => (p (ix2 r ⟨l.val, by have := l.isLt; omega⟩) : EReal) * (y : EReal)) (by rw [mul_inv, div_eq_mul_inv]; norm_num)

def sums (f : FVec Ideal S65536x16 .f32) : FVec Ideal S32x2048x16 .f32 :=
  Host.reduceWindowAdd ![1, 2048, 1] ![1, 1, 1] ![0, 2047, 0] ![0, 0, 0] (shapeCast _ f shapeCasts_S65536x16_S32x2048x16)
    (broadcastInDim S_ ![] bcast_S_S_ (constant S_ .f32 0x00000000#32)) reduceWindows_S32x2048x16_S32x2048x16_w1s1p0_0_w2048s1p2047_0_w1s1p0_0 h_S_

def blocks (s : FVec Ideal S32x2048x16 .f32) : FVec Ideal S32x4x16x512 .f32 :=
  transpose S32x4x16x512 [0, 1, 3, 2] (shapeCast _ s shapeCasts_S32x2048x16_S32x4x512x16 : FVec Ideal S32x4x512x16 .f32) transposes_S32x4x512x16_S32x4x16x512_0_1_3_2

theorem blocks_apply (s : FVec Ideal S32x2048x16 .f32) (b : Fin 32) (k : Fin 4) (h : Fin 16) (i : Fin 512) :
    (blocks s (ix4 b k h i) : EReal) = s (ix3 b ⟨512 * k.val + i.val, by have := k.isLt; have := i.isLt; omega⟩ h) := by
  pointwise [blocks]
  exact congrArg (fun t => (s (ix3 b t h) : EReal)) (Fin.ext (by simp only; omega))

theorem cast_apply (f : FVec Ideal S65536x16 .f32) (b : Fin 32) (s : Fin 2048) (h : Fin 16) :
    (shapeCast S32x2048x16 f shapeCasts_S65536x16_S32x2048x16 (ix3 b s h) : EReal) = f (ix2 ⟨2048 * b.val + s.val, by have := b.isLt; have := s.isLt; omega⟩ h) := by
  pointwise
  exact congrArg (fun t => (f (ix2 t h) : EReal)) (Fin.ext (by simp only; omega))

theorem sums_apply (f : FVec Ideal S65536x16 .f32) (g : ℕ → EReal) (b : Fin 32) (t : Fin 2048) (h : Fin 16)
    (hg : ∀ s : Fin 2048, (f (ix2 ⟨2048 * b.val + s.val, by have := b.isLt; have := s.isLt; omega⟩ h) : EReal) = g s.val) :
    (sums f (ix3 b t h) : EReal) = ∑ s ∈ Finset.range (t.val + 1), g s := by
  have e : ((broadcastInDim S_ ![] bcast_S_S_ (constant S_ .f32 0x00000000#32) : FVec Ideal S_ .f32) (Shape.Idx.first h_S_) : EReal) = 0 := by
    pointwise
  unfold sums
  exact Running.host_sum (M := 2047) rfl _ _ g _ _ e b t h fun s => (cast_apply f b s h).trans (hg s)

/-- Key, value and gate columns. -/
def kcols (p : FVec Ideal S65536x4112 .f32) : FVec Ideal S65536x1024 .bf16 :=
  truncf .bf16 (extractStridedSlice S65536x1024 ![0, 1024] p slices_S65536x4112_S65536x1024_0_1024) bitsLt_bf16_f32
def vcols (p : FVec Ideal S65536x4112 .f32) : FVec Ideal S65536x1024 .bf16 :=
  truncf .bf16 (extractStridedSlice S65536x1024 ![0, 2048] p slices_S65536x4112_S65536x1024_0_2048) bitsLt_bf16_f32
def zcols (p : FVec Ideal S65536x4112 .f32) : FVec Ideal S65536x1024 .bf16 :=
  truncf .bf16 (extractStridedSlice S65536x1024 ![0, 3072] p slices_S65536x4112_S65536x1024_0_3072) bitsLt_bf16_f32

theorem kcols_apply (p : FVec Ideal S65536x4112 .f32) (r : Fin 65536) (l : Fin 1024) :
    (kcols p (ix2 r l) : EReal) = p (ix2 r ⟨1024 + l.val, by have := l.isLt; omega⟩) := by
  pointwise [kcols]
theorem vcols_apply (p : FVec Ideal S65536x4112 .f32) (r : Fin 65536) (l : Fin 1024) :
    (vcols p (ix2 r l) : EReal) = p (ix2 r ⟨2048 + l.val, by have := l.isLt; omega⟩) := by
  pointwise [vcols]
theorem zcols_apply (p : FVec Ideal S65536x4112 .f32) (r : Fin 65536) (l : Fin 1024) :
    (zcols p (ix2 r l) : EReal) = p (ix2 r ⟨3072 + l.val, by have := l.isLt; omega⟩) := by
  pointwise [zcols]

section Result

variable (x : FVec Ideal S65536x1024 .f32) (oa ob : FVec Ideal S65536x512 .bf16) (W : FVec Ideal S1024x1024 .f32) (g g' : FVec Ideal S2x1024 .f32)
  (V : FVec Ideal S1024x4112 .f32) (b : FVec Ideal S16 .f32)

/-- The stage of these arrays. -/
def stage : Stage where
  x r l := x (ix2 r l)
  oa r l := oa (ix2 r l)
  ob r l := ob (ix2 r l)
  wout k l := W (ix2 k l)
  post l := g (ix2 0 l)
  pre l := g' (ix2 1 l)
  win k j := V (ix2 k j)
  bias h := b (ix1 h)

abbrev projected : FVec Ideal S65536x4112 .f32 := proj (stream x (prod oa ob W) g) g' V

theorem stream_apply (r : Fin 65536) (l : Fin 1024) : (stream x (prod oa ob W) g (ix2 r l) : EReal) = (stage x oa ob W g g' V b).stream r l := by
  refine Eq.trans (b := (x (ix2 r l) : EReal) + normed (prod oa ob W) (extractStridedSlice S1x1024 ![0, 0] g slices_S2x1024_S1x1024_0_0) (ix2 r l)) (by rfl) ?_
  rw [normed_apply]
  refine congrArg ((x (ix2 r l) : EReal) + ·) (congrArg₂ (fun u v : Fin 1024 → EReal => rmsNorm u v l) (funext fun j => prod_apply oa ob W r j) (funext fun j => ?_))
  pointwise [stage]

theorem proj_apply (r : Fin 65536) (j : Fin 4112) : (projected x oa ob W g g' V (ix2 r j) : EReal) = (stage x oa ob W g g' V b).proj r j := by
  refine Eq.trans (b := ∑ k : Fin 1024, (normed (stream x (prod oa ob W) g) (extractStridedSlice S1x1024 ![1, 0] g' slices_S2x1024_S1x1024_1_0) (ix2 r k) : EReal) * V (ix2 k j)) ?_ ?_
  · unfold projected proj
    generalize normed (stream x (prod oa ob W) g) _ = y
    pointwise
  refine Finset.sum_congr rfl fun k _ => congrArg (fun u : EReal => u * (V (ix2 k j) : EReal)) ?_
  rw [normed_apply]
  refine congrArg₂ (fun u v : Fin 1024 → EReal => rmsNorm u v k) (funext fun i => stream_apply x oa ob W g g' V b r i) (funext fun i => ?_)
  pointwise [stage]

theorem result_q : qcols (projected x oa ob W g g' V) = fun i : S65536x1024.Idx =>
    (stage x oa ob W g g' V b).proj (i 0) ⟨(i 1).val, by have : (i 1).val < 1024 := (i 1).isLt; omega⟩ * (((8 * Real.log 2)⁻¹ : ℝ) : EReal) := by
  funext i
  obtain ⟨r, l, rfl⟩ : ∃ (r : Fin 65536) (l : Fin 1024), i = ix2 r l := ⟨i 0, i 1, eq_ix2 i⟩
  rw [qcols_apply, proj_apply x oa ob W g g' V b]
  rfl

theorem result_k : kcols (projected x oa ob W g g' V) = fun i : S65536x1024.Idx =>
    (stage x oa ob W g g' V b).proj (i 0) ⟨1024 + (i 1).val, by have : (i 1).val < 1024 := (i 1).isLt; omega⟩ := by
  funext i
  obtain ⟨r, l, rfl⟩ : ∃ (r : Fin 65536) (l : Fin 1024), i = ix2 r l := ⟨i 0, i 1, eq_ix2 i⟩
  rw [kcols_apply, proj_apply x oa ob W g g' V b]
  rfl

theorem result_v : vcols (projected x oa ob W g g' V) = fun i : S65536x1024.Idx =>
    (stage x oa ob W g g' V b).proj (i 0) ⟨2048 + (i 1).val, by have : (i 1).val < 1024 := (i 1).isLt; omega⟩ := by
  funext i
  obtain ⟨r, l, rfl⟩ : ∃ (r : Fin 65536) (l : Fin 1024), i = ix2 r l := ⟨i 0, i 1, eq_ix2 i⟩
  rw [vcols_apply, proj_apply x oa ob W g g' V b]
  rfl

theorem result_z : zcols (projected x oa ob W g g' V) = fun i : S65536x1024.Idx =>
    (stage x oa ob W g g' V b).proj (i 0) ⟨3072 + (i 1).val, by have : (i 1).val < 1024 := (i 1).isLt; omega⟩ := by
  funext i
  obtain ⟨r, l, rfl⟩ : ∃ (r : Fin 65536) (l : Fin 1024), i = ix2 r l := ⟨i 0, i 1, eq_ix2 i⟩
  rw [zcols_apply, proj_apply x oa ob W g g' V b]
  rfl

theorem result_stream : stream x (prod oa ob W) g = fun i : S65536x1024.Idx => (stage x oa ob W g g' V b).stream (i 0) (i 1) := by
  funext i
  obtain ⟨r, l, rfl⟩ : ∃ (r : Fin 65536) (l : Fin 1024), i = ix2 r l := ⟨i 0, i 1, eq_ix2 i⟩
  exact stream_apply x oa ob W g g' V b r l

theorem result_sums : blocks (sums (logSig (gate (projected x oa ob W g g' V) b))) = fun i : S32x4x16x512.Idx =>
    (stage x oa ob W g g' V b).gates (i 0) (512 * (i 1).val + (i 3).val + 1) (i 2) := by
  funext i
  obtain ⟨c, k, h, j, rfl⟩ : ∃ (c : Fin 32) (k : Fin 4) (h : Fin 16) (j : Fin 512), i = ix4 c k h j := ⟨i 0, i 1, i 2, i 3, eq_ix4 i⟩
  rw [blocks_apply]
  refine (sums_apply _ (fun s => (stage x oa ob W g g' V b).gate (Fin.ofNat 65536 (2048 * c.val + s)) h) c _ h fun s => ?_).trans rfl
  rw [logSig_apply, gate_apply, proj_apply x oa ob W g g' V b]
  have e : Fin.ofNat 65536 (2048 * c.val + s.val) = ⟨2048 * c.val + s.val, by have := c.isLt; have := s.isLt; omega⟩ :=
    Fin.ext (Nat.mod_eq_of_lt (by have := c.isLt; have := s.isLt; omega))
  beta_reduce
  rw [e]
  rfl

end Result

end Cert.Reference3Ideal.Middle

end
-- ==== Proof.MiddleClaims.lean ====
/-
  The claims about the middle call: the frames, the named constant, and the equations of the six result arrays.
-/
module

public import proofs.«01_k».proof.Defs
public import proofs.«01_k».proof.Proof.Gen.Kernel3.Frame
public import proofs.«01_k».proof.Proof.MiddleKernel
public import proofs.«01_k».proof.Proof.MiddleReference

@[expose] public section

set_option maxRecDepth 16384

noncomputable section

namespace Cert.MiddleClaims

open Idealize.ShloMosaic Idealize.ShloMosaic.TcCoe Idealize.SL.Sem

theorem frame : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ)

theorem preserves : Cert.preserves_Kernel3_Kernel3Ideal :=
  IdealRules.named_const.statement Cert.Kernel3Ideal.κ "q_scale" .f32 0x3E38AA3B#32 _ rfl

section Reference

open Cert.Reference3Ideal Cert.Reference3Ideal.Value Cert.Reference3Ideal.Middle

variable (m : (ℓ : Loc nD τ sig) → Buf (Elt Ideal) ℓ) (c : Dev nD)

abbrev x : FVec Ideal S65536x1024 .f32 := m ((c : Thread nD τ).loc main_arg0)
abbrev oa : FVec Ideal S65536x512 .bf16 := m ((c : Thread nD τ).loc main_arg1)
abbrev ob : FVec Ideal S65536x512 .bf16 := m ((c : Thread nD τ).loc main_arg2)
abbrev W : FVec Ideal S1024x1024 .f32 := m ((c : Thread nD τ).loc main_arg3)
abbrev g : FVec Ideal S2x1024 .f32 := m ((c : Thread nD τ).loc main_arg4)
abbrev g' : FVec Ideal S2x1024 .f32 := m ((c : Thread nD τ).loc main_arg5)
abbrev V : FVec Ideal S1024x4112 .f32 := m ((c : Thread nD τ).loc main_arg6)
abbrev b : FVec Ideal S16 .f32 := m ((c : Thread nD τ).loc main_arg7)

theorem ref_q : res_main_v52 m c = qcols (projected (x m c) (oa m c) (ob m c) (W m c) (g m c) (g' m c) (V m c)) := by
  unfold res_main_v52
  rfl
theorem ref_k : res_main_v53 m c = kcols (projected (x m c) (oa m c) (ob m c) (W m c) (g m c) (g' m c) (V m c)) := by
  unfold res_main_v53
  rfl
theorem ref_v : res_main_v54 m c = vcols (projected (x m c) (oa m c) (ob m c) (W m c) (g m c) (g' m c) (V m c)) := by
  unfold res_main_v54
  rfl
theorem ref_z : res_main_v55 m c = zcols (projected (x m c) (oa m c) (ob m c) (W m c) (g m c) (g' m c) (V m c)) := by
  unfold res_main_v55
  rfl
theorem ref_sums : res_main_v51 m c = blocks (sums (logSig (gate (projected (x m c) (oa m c) (ob m c) (W m c) (g m c) (g' m c) (V m c)) (b m c)))) := by
  unfold res_main_v51
  rfl

end Reference

/-- The result arrays of both programs are the same functions of the stage. -/
theorem algebraic : Cert.algebraic_Kernel3Ideal_Reference3Ideal := by
  intro m ρ m' ρ' _ hagree
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    Cert.Kernel3Ideal.Value.run_blocks m ρ, ?_⟩
  refine (θ_run Cert.Reference3Ideal.defs _ _).mono (fun r h c => ?_) (Cert.Reference3Ideal.Value.run (F := Ideal) m' ρ')
  obtain ⟨h0, h1, h2, h3, h4, h5, hr⟩ := h c
  obtain ⟨e0, e1, e2, e3, e4, e5, e6, e7⟩ := hagree c
  have es : Cert.Reference3Ideal.Middle.stage (x m' c) (oa m' c) (ob m' c) (W m' c) (g m' c) (g' m' c) (V m' c) (b m' c) = Cert.Kernel3Ideal.Middle.stage m c := by
    unfold x oa ob W g g' V b
    rw [e0, e1, e2, e3, e4, e5, e6, e7]
    rfl
  refine ⟨h0.trans ?_, h1.trans ((ref_q m' c).trans ?_), h2.trans ((ref_k m' c).trans ?_), h3.trans ((ref_v m' c).trans ?_), h4.trans ((ref_z m' c).trans ?_),
    h5.trans ((ref_sums m' c).trans ?_), hr⟩
  · refine Eq.trans (Cert.Reference3Ideal.Middle.result_stream (x m' c) (oa m' c) (ob m' c) (W m' c) (g m' c) (g' m' c) (V m' c) (b m' c)) ?_
    rw [es]
    exact (Cert.Kernel3Ideal.Middle.result_stream m c).symm
  · refine Eq.trans (Cert.Reference3Ideal.Middle.result_q (x m' c) (oa m' c) (ob m' c) (W m' c) (g m' c) (g' m' c) (V m' c) (b m' c)) ?_
    rw [es]
    exact (Cert.Kernel3Ideal.Middle.result_q m c).symm
  · refine Eq.trans (Cert.Reference3Ideal.Middle.result_k (x m' c) (oa m' c) (ob m' c) (W m' c) (g m' c) (g' m' c) (V m' c) (b m' c)) ?_
    rw [es]
    exact (Cert.Kernel3Ideal.Middle.result_k m c).symm
  · refine Eq.trans (Cert.Reference3Ideal.Middle.result_v (x m' c) (oa m' c) (ob m' c) (W m' c) (g m' c) (g' m' c) (V m' c) (b m' c)) ?_
    rw [es]
    exact (Cert.Kernel3Ideal.Middle.result_v m c).symm
  · refine Eq.trans (Cert.Reference3Ideal.Middle.result_z (x m' c) (oa m' c) (ob m' c) (W m' c) (g m' c) (g' m' c) (V m' c) (b m' c)) ?_
    rw [es]
    exact (Cert.Kernel3Ideal.Middle.result_z m c).symm
  · refine Eq.trans (Cert.Reference3Ideal.Middle.result_sums (x m' c) (oa m' c) (ob m' c) (W m' c) (g m' c) (g' m' c) (V m' c) (b m' c)) ?_
    rw [es]
    exact (Cert.Kernel3Ideal.Middle.result_sums m c).symm

end Cert.MiddleClaims

end
-- ==== Proof.First.lean ====
/-
  The layer's first stage at a token: the input's norm, its products with the weights, the rotary embedding of queries and keys, and the short convolution with its gate and unit rows.
-/
module

public import proofs.«01_k».proof.Proof.Norm

@[expose] public section

noncomputable section

namespace Cert.Spec

open Idealize.ShloMosaic
open scoped BigOperators

/-- The stage's arguments: the stream, the tokens' positions, and the weights. -/
structure Entry where
  x : Fin 65536 → Fin 1024 → EReal
  pos : Fin 65536 → EReal
  pre : Fin 1024 → EReal
  win : Fin 1024 → Fin 4104 → EReal
  conv : Fin 4 → Fin 1536 → EReal

/-- The inverse frequency of a rotated pair: the base to the power `-2j/16`. -/
def frequency (j : Fin 8) : EReal :=
  Ideal.pow (Ideal.ofBits .f32 0x48F42400#32)
    (Ideal.div (-((FloatOps.sitofp (F := Ideal) .f32 (BitVec.ofNat 32 j.val) : EReal) * Ideal.ofBits .f32 0x40000000#32)) (Ideal.ofBits .f32 0x41800000#32))

/-- A head's first sixteen lanes turned in pairs `(d, d + 8)`, the others kept. -/
def turn (a : Fin 64 → EReal) (cos sin : Fin 8 → EReal) (d : Fin 64) : EReal :=
  if h : d.val < 8 then a d * cos ⟨d.val, h⟩ - a ⟨8 + d.val, by omega⟩ * sin ⟨d.val, h⟩
  else if h' : d.val < 16 then a d * cos ⟨d.val - 8, by omega⟩ + a ⟨d.val - 8, by omega⟩ * sin ⟨d.val - 8, by omega⟩
  else a d

/-- `y` times its logistic. -/
def gated (y : EReal) : EReal := y * Ideal.div (Ideal.ofBits .f32 0x3F800000#32) (Ideal.ofBits .f32 0x3F800000#32 + Ideal.exp (-y))

/-- A row of 128 lanes over its length. -/
def unitRow (y : Fin 128 → EReal) (d : Fin 128) : EReal := y d * Ideal.rsqrt ((∑ j, y j * y j) + Ideal.ofBits .f32 0x358637BD#32)

namespace Entry

variable (a : Entry)

/-- The projection's column `j`. -/
def proj (r : Fin 65536) (j : Fin 4104) : EReal := ∑ k, rmsNorm (a.x r) a.pre k * a.win k j

/-- A pair's angle. -/
def angle (r : Fin 65536) (j : Fin 8) : EReal := a.pos r * frequency j

/-- A lane of the turned heads whose columns start at `o`. -/
def turned (o : ℕ) (ho : o + 512 ≤ 4104) (r : Fin 65536) (l : Fin 512) : EReal :=
  turn (fun d => a.proj r ⟨o + (l.val / 64 * 64 + d.val), by omega⟩) (fun j => Ideal.cos (a.angle r j)) (fun j => Ideal.sin (a.angle r j)) ⟨l.val % 64, by omega⟩

/-- The convolution's column `j`, `d` tokens back in the same sequence. -/
def back (d : ℕ) (r : Fin 65536) (j : Fin 1536) : EReal := if d ≤ r.val % 2048 then a.proj ⟨r.val - d, by omega⟩ ⟨2048 + j.val, by omega⟩ else 0

/-- The short convolution, gated. -/
def short (r : Fin 65536) (j : Fin 1536) : EReal :=
  gated (a.conv 3 j * a.back 0 r j + a.conv 2 j * a.back 1 r j + a.conv 1 j * a.back 2 r j + a.conv 0 j * a.back 3 r j)

/-- A lane of the unit rows of the four heads whose columns start at `o`. -/
def units (o : ℕ) (ho : o + 512 ≤ 1536) (r : Fin 65536) (l : Fin 512) : EReal :=
  unitRow (fun d => a.short r ⟨o + (l.val / 128 * 128 + d.val), by omega⟩) ⟨l.val % 128, by omega⟩

end Entry

end Cert.Spec

end
-- ==== Proof.FirstHost.lean ====
/-
  The first call's host values and its blocks: what the launch hands the kernel, and where each step's blocks lie.
-/
module

public import proofs.«01_k».proof.Proof.Gen.Kernel4Ideal.Frame
public import proofs.«01_k».proof.Proof.First
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.First
open Cert.Kernel4Ideal Cert.Kernel4Ideal.Gen Idealize.ShloMosaic Idealize.ShloMosaic.TcCoe Cert.Spec
open scoped BigOperators

variable (m : (ℓ : Loc nD τ sig) → Buf (Elt Ideal) ℓ) (c : Dev nD)

/-! The launch's arguments, as arrays. -/

abbrev X : FVec Ideal S65536x1024 .f32 := m ((c : Thread nD τ).loc main_arg0)
abbrev P : IVec S32x2048 32 := m ((c : Thread nD τ).loc main_arg1)
abbrev G : FVec Ideal S2x1024 .f32 := m ((c : Thread nD τ).loc main_arg2)
abbrev W : FVec Ideal S1024x4104 .f32 := m ((c : Thread nD τ).loc main_arg3)
abbrev K : FVec Ideal S4x1536 .f32 := m ((c : Thread nD τ).loc main_arg4)

/-- The launch's arguments as the stage's. -/
def entry : Entry where
  x r l := X m c (ix2 r l)
  pos r := (FloatOps.sitofp (F := Ideal) .f32 (P m c (ix2 ⟨r.val / 2048, by omega⟩ ⟨r.val % 2048, by omega⟩)) : EReal)
  pre l := G m c (ix2 0 l)
  win k j := W m c (ix2 k j)
  conv i j := K m c (ix2 i j)

theorem host_x (r : Fin 65536) (l : Fin 1024) : (V m c main_arg0 (ix2 r l) : EReal) = X m c (ix2 r l) := by
  unfold V
  after_reads_at

theorem host_k (r : Fin 4) (l : Fin 1536) : (V m c main_arg4 (ix2 r l) : EReal) = K m c (ix2 r l) := by
  unfold V
  after_reads_at

theorem host_g (l : Fin 1024) : (V m c main_v28 (ix2 0 l) : EReal) = G m c (ix2 0 l) := by
  unfold V
  after_reads_at

theorem host_p (b s : Fin 256) : (V m c main_v27 (ix3 b 0 s) : BitVec 32) = P m c (ix2 ⟨b.val / 8, by omega⟩ ⟨b.val % 8 * 256 + s.val, by omega⟩) := by
  unfold V
  after_reads_at

/-- The columns of the padded projection that the weights fill. -/
theorem host_w (k : Fin 1024) (l : Fin 4096) : (V m c main_v4 (ix2 k ⟨l.val, by omega⟩) : EReal) = W m c (ix2 k ⟨l.val, by omega⟩) := by
  unfold V
  after_reads_at
  after_reads_at

/-- An entry picked from a table of eight by a lane's number, where the lane's flag is set. -/
theorem picked (x : FVec Ideal S8 .f32) (I : IVec S128x1 32) (b : BitVec 1) (z : EReal) (l : Fin 128)
    (hb : b = if l.val % 64 < 16 then 1#1 else 0#1)
    (hI : (gather_S8_S128x1_S128_n_0_n_n_0_1_1.operandIdx (ix1 l) I 0).val = l.val % 8) :
    (Scalar.select b (Host.gather gather_S8_S128x1_S128_n_0_n_n_0_1_1 x I (ix1 l)) z : EReal) = if l.val % 64 < 16 then x (ix1 ⟨l.val % 8, by omega⟩) else z := by
  subst hb
  have e : gather_S8_S128x1_S128_n_0_n_n_0_1_1.operandIdx (ix1 l) I = ix1 ⟨l.val % 8, by omega⟩ := by
    funext a
    fin_cases a
    exact Fin.ext hI
  split_ifs <;> simp only [Scalar.select, Host.gather, e] <;> rfl

/-- The inverse frequency of a lane, zero where the lane is kept. -/
theorem host_f (l : Fin 128) : (V m c main_v26 (ix2 l 0) : EReal) = if l.val % 64 < 16 then frequency ⟨l.val % 8, by omega⟩ else 0 := by
  unfold V
  after_reads_at
  refine (picked _ _ _ _ l ?_ ?_).trans ?_
  · revert l
    decide +kernel
  · revert l
    decide +kernel
  · congr 1
    exact Ideal.ofBits_zero_f32

theorem idx_rows : ∀ t : Fin cfg0.N, win0_0.index t = ![t.val, 0] ∧ win0_1.index t = ![t.val, 0, 0] := by decide +kernel
theorem idx_results : ∀ t : Fin cfg0.N, win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0] := by decide +kernel
theorem idx_whole (t : Fin cfg0.N) : win0_2.index t = ![0, 0] ∧ win0_3.index t = ![0, 0] ∧ win0_4.index t = ![0, 0] ∧ win0_5.index t = ![0, 0] :=
  ⟨rfl, rfl, rfl, rfl⟩

theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel
theorem covers14 : (cfg0.win 14).Covers := by decide +kernel
theorem covers15 : (cfg0.win 15).Covers := by decide +kernel

/-- A step's block of tokens, and row `r` of it. -/
abbrev block (t : Fin cfg0.N) : Fin 256 := t
abbrev token (t : Fin cfg0.N) (r : Fin 256) : Fin 65536 := ⟨256 * t.val + r.val, by have : t.val < 256 := t.isLt; omega⟩

theorem iblk0 (t : Fin cfg0.N) (r : Fin 256) (l : Fin 1024) : (iblk m c 0 t (ix2 r l) : EReal) = V m c main_arg0 (ix2 (token t r) l) := by
  blk_ext [iblk, idx_rows t]
theorem iblk1 (t : Fin cfg0.N) (r : Fin 256) : (iblk m c 1 t (ix3 0 0 r) : BitVec 32) = V m c main_v27 (ix3 (block t) 0 r) := by
  blk_ext [iblk, idx_rows t]
  rfl
theorem iblk2 (t : Fin cfg0.N) (l : Fin 128) : (iblk m c 2 t (ix2 l 0) : EReal) = V m c main_v26 (ix2 l 0) := by
  blk_ext [iblk, idx_whole t]
theorem iblk3 (t : Fin cfg0.N) (l : Fin 1024) : (iblk m c 3 t (ix2 0 l) : EReal) = V m c main_v28 (ix2 0 l) := by
  blk_ext [iblk, idx_whole t]
theorem iblk4 (t : Fin cfg0.N) (r : Fin 1024) (l : Fin 4224) : (iblk m c 4 t (ix2 r l) : EReal) = V m c main_v4 (ix2 r l) := by
  blk_ext [iblk, idx_whole t]
theorem iblk5 (t : Fin cfg0.N) (r : Fin 4) (l : Fin 1536) : (iblk m c 5 t (ix2 r l) : EReal) = V m c main_arg4 (ix2 r l) := by
  blk_ext [iblk, idx_whole t]

end Cert.Kernel4Ideal.First

end
-- ==== Proof.FirstPay.lean ====
/-
  The first call's kernel arithmetic, read at an index: the projection's columns, the turned lanes, the short convolution and its unit rows.
-/
module

public import proofs.«01_k».proof.Proof.Gen.Kernel4Ideal.Skeleton
public import proofs.«01_k».proof.Proof.First
public import Idealize.ShloMosaic.Lib.Pointwise
public import Idealize.ShloMosaic.Lib.WordCmp

@[expose] public section

set_option maxRecDepth 16384

noncomputable section

namespace Cert.Kernel4Ideal.First
open Cert.Kernel4Ideal Cert.Kernel4Ideal.Gen Idealize.ShloMosaic Idealize.ShloMosaic.TcCoe Cert.Spec
open scoped BigOperators

theorem hidden_apply (x : Vec Ideal S256x1024 .f32) (g : Vec Ideal S1x1024 .f32) (r : Fin 256) (l : Fin 1024) :
    (k0_pay2 x g (ix2 r l) : EReal) = rmsNorm (fun j => x (ix2 r j)) (fun j => g (ix2 0 j)) l := by
  unfold rmsNorm
  pointwise [k0_pay2]

/-- The projection's columns. -/
def cols (h : FVec Ideal S256x1024 .bf16) (w : Vec Ideal S1024x512 .bf16) : FVec Ideal S256x512 .f32 := k0_pay12 h w

theorem cols_apply (h : Vec Ideal S256x1024 .bf16) (w : Vec Ideal S1024x512 .bf16) (r : Fin 256) (l : Fin 512) :
    (cols h w (ix2 r l) : EReal) = ∑ k : Fin 1024, h (ix2 r k) * w (ix2 k l) := by
  pointwise [cols, k0_pay12]

theorem angle_apply (f : Vec Ideal S128x1 .f32) (p : Vec Ideal S1x1x256 .i32) (l : Fin 128) (r : Fin 256) :
    (k0_pay3 f p (ix2 l r) : EReal) = f (ix2 l 0) * (FloatOps.sitofp (F := Ideal) .f32 (p (ix3 0 0 r)) : EReal) := by
  pointwise [k0_pay3]

theorem cos_apply (f : Vec Ideal S128x1 .f32) (p : Vec Ideal S1x1x256 .i32) (l : Fin 128) (r : Fin 256) :
    (k0_pay4 f p (ix2 r l) : EReal) = Ideal.cos (f (ix2 l 0) * (FloatOps.sitofp (F := Ideal) .f32 (p (ix3 0 0 r)) : EReal)) := by
  rw [← angle_apply]
  pointwise [k0_pay4]
theorem sin_apply (f : Vec Ideal S128x1 .f32) (p : Vec Ideal S1x1x256 .i32) (l : Fin 128) (r : Fin 256) :
    (k0_pay5 f p (ix2 r l) : EReal) = Ideal.sin (f (ix2 l 0) * (FloatOps.sitofp (F := Ideal) .f32 (p (ix3 0 0 r)) : EReal)) := by
  rw [← angle_apply]
  pointwise [k0_pay5]

/-- The sines where a lane takes the one eight before it, and where it takes the one eight after. -/
def hiOf (s : FVec Ideal S256x128 .f32) : FVec Ideal S256x128 .f32 := k0_pay10 s 64#32 k0_pay6 k0_pay7 k0_pay8
def loOf (s : FVec Ideal S256x128 .f32) : FVec Ideal S256x128 .f32 := k0_pay11 s 64#32 k0_pay6 k0_pay7 k0_pay8

/-- Two heads' lanes, turned. -/
def turnTile (f cos hi lo : FVec Ideal S256x128 .f32) : FVec Ideal S256x128 .f32 :=
  addf (addf (mulf f cos) (mulf (dynamicRotate 1 8#32 none f rotates_S256x128_d1) hi)) (mulf (dynamicRotate 1 120#32 none f rotates_S256x128_d1) lo)

/-- Times a constant, as stored. -/
def scaled (f : FVec Ideal S256x128 .f32) (s : Ideal .f32) : FVec Ideal S256x128 .bf16 := truncf .bf16 (mulf f (broadcast S256x128 s)) bitsLt_bf16_f32

/-- Four groups of 128 lanes of a row of 512. -/
abbrev part0 (p : FVec Ideal S256x512 .f32) : FVec Ideal S256x128 .f32 := extractStridedSlice S256x128 ![0, 0] p slices_S256x512_o0_0_S256x128
abbrev part1 (p : FVec Ideal S256x512 .f32) : FVec Ideal S256x128 .f32 := extractStridedSlice S256x128 ![0, 128] p slices_S256x512_o0_128_S256x128
abbrev part2 (p : FVec Ideal S256x512 .f32) : FVec Ideal S256x128 .f32 := extractStridedSlice S256x128 ![0, 256] p slices_S256x512_o0_256_S256x128
abbrev part3 (p : FVec Ideal S256x512 .f32) : FVec Ideal S256x128 .f32 := extractStridedSlice S256x128 ![0, 384] p slices_S256x512_o0_384_S256x128

/-- A lane's place among its head's 64. -/
theorem place_apply (l : Fin 128) : k0_pay9 64#32 k0_pay6 k0_pay7 k0_pay8 (ix2 0 l) = BitVec.ofNat 32 (l.val % 64) := by
  pointwise [k0_pay9, k0_pay8, k0_pay7, k0_pay6]
  revert l
  decide +kernel

theorem hi_apply (s : FVec Ideal S256x128 .f32) (r : Fin 256) (l : Fin 128) :
    (hiOf s (ix2 r l) : EReal) = if 8 ≤ l.val % 64 ∧ l.val % 64 < 16 then s (ix2 r l) else 0 := by
  pointwise [hiOf, k0_pay10]
  have e : ∀ n : Fin 64, IntOp.andi (IntOp.cmpi .sge (BitVec.ofNat 32 n.val) 8#32) (IntOp.cmpi .slt (BitVec.ofNat 32 n.val) 16#32)
      = BitVec.ofBool (decide (8 ≤ n.val ∧ n.val < 16)) := by decide +kernel
  rw [place_apply, e ⟨l.val % 64, by omega⟩, WordCmp.select_ofBool]
  simp only [decide_eq_true_eq]

theorem lo_apply (s : FVec Ideal S256x128 .f32) (r : Fin 256) (l : Fin 128) :
    (loOf s (ix2 r l) : EReal) = if l.val % 64 < 8 then -s (ix2 r l) else 0 := by
  pointwise [loOf, k0_pay11]
  have e : ∀ n : Fin 64, IntOp.cmpi .slt (BitVec.ofNat 32 n.val) 8#32 = BitVec.ofBool (decide (n.val < 8)) := by decide +kernel
  rw [place_apply, e ⟨l.val % 64, by omega⟩, WordCmp.select_ofBool, zero_sub]
  simp only [decide_eq_true_eq]

theorem turnTile_apply (f cos s : FVec Ideal S256x128 .f32) (C S : Fin 8 → EReal) (r : Fin 256)
    (hc : ∀ l : Fin 128, (cos (ix2 r l) : EReal) = if l.val % 64 < 16 then C ⟨l.val % 8, by omega⟩ else 1)
    (hs : ∀ l : Fin 128, (s (ix2 r l) : EReal) = if l.val % 64 < 16 then S ⟨l.val % 8, by omega⟩ else 0) (l : Fin 128) :
    (turnTile f cos (hiOf s) (loOf s) (ix2 r l) : EReal) = turn (fun d => f (ix2 r ⟨l.val / 64 * 64 + d.val, by omega⟩)) C S ⟨l.val % 64, by omega⟩ := by
  unfold turn
  pointwise [turnTile]
  rw [hi_apply, lo_apply, hc, hs]
  have hl := l.isLt
  have e0 : (⟨l.val / 64 * 64 + l.val % 64, by omega⟩ : Fin 128) = l := Fin.ext (by simp only; omega)
  by_cases h1 : l.val % 64 < 8
  · have e1 : (⟨(l.val + 128 - 120) % 128, by omega⟩ : Fin 128) = ⟨l.val / 64 * 64 + (8 + l.val % 64), by omega⟩ := Fin.ext (by simp only; omega)
    have e2 : (⟨l.val % 8, by omega⟩ : Fin 8) = ⟨l.val % 64, h1⟩ := Fin.ext (by simp only; omega)
    rw [dif_pos h1, if_pos (by omega), if_neg (by omega), if_pos h1, if_pos (by omega), e0, e1, e2, mul_zero, add_zero, mul_neg, ← sub_eq_add_neg]
  · by_cases h2 : l.val % 64 < 16
    · have e1 : (⟨(l.val + 128 - 8) % 128, by omega⟩ : Fin 128) = ⟨l.val / 64 * 64 + (l.val % 64 - 8), by omega⟩ := Fin.ext (by simp only; omega)
      have e2 : (⟨l.val % 8, by omega⟩ : Fin 8) = ⟨l.val % 64 - 8, by omega⟩ := Fin.ext (by simp only; omega)
      rw [dif_neg h1, dif_pos h2, if_pos h2, if_pos (by omega), if_pos h2, if_neg h1, e0, e1, e2, mul_zero, add_zero]
    · rw [dif_neg h1, dif_neg h2, if_neg h2, if_neg (by omega), if_neg h1, e0, mul_zero, mul_zero, mul_one, add_zero, add_zero]

theorem scaled_apply (f : FVec Ideal S256x128 .f32) (s : Ideal .f32) (r : Fin 256) (l : Fin 128) :
    (scaled f s (ix2 r l) : EReal) = f (ix2 r l) * (s : EReal) := by
  pointwise [scaled]

/-! ## The short convolution -/

abbrev rows8 : IVec S8x512 32 := iota .tc S8x512 32 [0] iota_S8x512_d0_w32

/-- The rows `d` before, the first of them from the eight kept rows. -/
def shifted (d : BitVec 32) (p : FVec Ideal S256x512 .f32) (e : FVec Ideal S8x512 .f32) : FVec Ideal S256x512 .f32 :=
  concatenate S256x512 0
    [⟨S8x512, select (cmpi .slt rows8 (broadcast S8x512 d)) (dynamicRotate 0 d none e rotates_S8x512_d0)
        (extractStridedSlice S8x512 ![0, 0] (dynamicRotate 0 d none p rotates_S256x512_d0) slices_S256x512_o0_0_S8x512)⟩,
      ⟨S248x512, extractStridedSlice S248x512 ![8, 0] (dynamicRotate 0 d none p rotates_S256x512_d0) slices_S256x512_o8_0_S248x512⟩]
    concatenates_S8x512_S248x512_S256x512_d0

theorem shifted_apply (d : BitVec 32) (hd : d.toNat < 8) (p : FVec Ideal S256x512 .f32) (e : FVec Ideal S8x512 .f32) (r : Fin 256) (l : Fin 512) :
    (shifted d p e (ix2 r l) : EReal) = if h : d.toNat ≤ r.val then p (ix2 ⟨r.val - d.toNat, by omega⟩ l) else e (ix2 ⟨8 + r.val - d.toNat, by omega⟩ l) := by
  pointwise [shifted]
  have hr := r.isLt
  have c : IntOp.cmpi .slt (BitVec.ofNat 32 r.val) d = BitVec.ofBool (decide (r.val < d.toNat)) := by
    conv_lhs => rw [show d = BitVec.ofNat 32 d.toNat by simp]
    exact WordCmp.cmpi_slt_ofNat (by omega) (by omega)
  have below : ∀ (q : Fin 256) (h : d.toNat ≤ r.val), q.val = r.val - d.toNat → (p (ix2 q l) : EReal) = p (ix2 ⟨r.val - d.toNat, by omega⟩ l) := fun q h e =>
    congrArg (fun s => (p (ix2 s l) : EReal)) (Fin.ext e)
  by_cases h8 : r.val < 8
  · rw [dif_pos h8, c, WordCmp.select_ofBool]
    by_cases h : d.toNat ≤ r.val
    · rw [dif_pos h, if_neg (by simp; omega)]
      exact below _ h (by simp only; omega)
    · rw [dif_neg h, if_pos (by simp; omega)]
      exact congrArg (fun s => (e (ix2 s l) : EReal)) (Fin.ext (by simp only; omega))
  · rw [dif_neg h8, dif_pos (by omega)]
    exact below _ (by omega) (by simp only; omega)

/-- The convolution of the columns `p` after the rows `e`. -/
def convolved (p : FVec Ideal S256x512 .f32) (e : Vec Ideal S8x512 .f32) (w3 w2 w1 w0 : Vec Ideal S1x512 .f32) : FVec Ideal S256x512 .f32 :=
  addf (addf (addf (mulf (broadcastTo S256x512 w3 broadcasts_S1x512_S256x512) p)
    (mulf (broadcastTo S256x512 w2 broadcasts_S1x512_S256x512) (shifted 1#32 p e)))
    (mulf (broadcastTo S256x512 w1 broadcasts_S1x512_S256x512) (shifted 2#32 p e)))
    (mulf (broadcastTo S256x512 w0 broadcasts_S1x512_S256x512) (shifted 3#32 p e))

theorem convolved_apply (p : FVec Ideal S256x512 .f32) (e : Vec Ideal S8x512 .f32) (w3 w2 w1 w0 : Vec Ideal S1x512 .f32) (r : Fin 256) (l : Fin 512) :
    (convolved p e w3 w2 w1 w0 (ix2 r l) : EReal) = w3 (ix2 0 l) * p (ix2 r l) + w2 (ix2 0 l) * shifted 1#32 p e (ix2 r l) + w1 (ix2 0 l) * shifted 2#32 p e (ix2 r l)
      + w0 (ix2 0 l) * shifted 3#32 p e (ix2 r l) := by
  pointwise [convolved]

/-- The gated convolution. -/
def gatedCols (y : FVec Ideal S256x512 .f32) : FVec Ideal S256x512 .f32 := mulf y (logistic y)

theorem gatedCols_apply (y : FVec Ideal S256x512 .f32) (r : Fin 256) (l : Fin 512) : (gatedCols y (ix2 r l) : EReal) = gated (y (ix2 r l)) := by
  unfold gated
  pointwise [gatedCols]
  rfl

/-- A head's unit rows. -/
def unitTile (f : FVec Ideal S256x128 .f32) : FVec Ideal S256x128 .f32 :=
  mulf f (broadcastTo S256x128 (rsqrt (addf (shapeCast S256x1 (multiReduction .add [1] S256 (mulf f f) 0x00000000#32 reduces_S256x128_S256 (.inl rfl) rfl) shapeCasts_S256_S256x1)
    (broadcast S256x1 (Scalar.ofBits .f32 0x358637BD#32 : Ideal .f32)))) broadcasts_S256x1_S256x128)

theorem unitTile_apply (f : FVec Ideal S256x128 .f32) (r : Fin 256) (l : Fin 128) : (unitTile f (ix2 r l) : EReal) = unitRow (fun j => f (ix2 r j)) l := by
  unfold unitRow
  pointwise [unitTile]

end Cert.Kernel4Ideal.First

end
-- ==== Proof.FirstStep.lean ====
/-
  The first call's grid steps: what each step leaves in the result windows and in the rows kept for the next step.
-/
module

public import proofs.«01_k».proof.Proof.Gen.Kernel4Ideal.Frame
public import proofs.«01_k».proof.Proof.FirstPay
public import Idealize.ShloMosaic.Lib.Pipeline.ValueKit
public import Idealize.ShloMosaic.Lib.Pipeline.ReadBack

@[expose] public section

set_option maxRecDepth 16384

noncomputable section

namespace Cert.Kernel4Ideal.First
open Cert.Kernel4Ideal Cert.Kernel4Ideal.Gen Idealize.ShloMosaic Idealize.ShloMosaic.TcCoe Cert.Spec
open scoped BigOperators

variable (m : (ℓ : Loc nD τ sig) → Buf (Elt Ideal) ℓ) (c : Dev nD)

/-- The norm's rows of a step's block, and the columns of the weights from `o`. -/
def hid (t : Fin cfg0.N) : FVec Ideal S256x1024 .bf16 := k0_pay2 (iblk m c 0 t) (iblk m c 3 t)
def wcols (t : Fin cfg0.N) (o : ℕ) (inb : ∀ a, ![0, o] a + ![1024, 512] a ≤ S1024x4224.size a) : Vec Ideal S1024x512 .bf16 :=
  View.ld (iblk m c 4 t) (Rect.unit ![0, o] ![1024, 512] inb)

/-- A row of the convolution's weights, its columns from `o`. -/
def tap (t : Fin cfg0.N) (i o : ℕ) (inb : ∀ a, ![i, o] a + ![1, 512] a ≤ S4x1536.size a) : Vec Ideal S1x512 .f32 :=
  View.ld (iblk m c 5 t) (Rect.unit ![i, o] ![1, 512] inb)
/-- The columns from `o` of the eight rows kept for the next step. -/
def keptOf (e : Vec Ideal S8x1536 .f32) (o : ℕ) (inb : ∀ a, ![0, o] a + ![8, 512] a ≤ S8x1536.size a) : Vec Ideal S8x512 .f32 :=
  View.ld (Val := Elt Ideal) (e' := .f32) e (Rect.unit ![0, o] ![8, 512] inb)

/-- The cosines and sines of a step's tokens. -/
def cosT (t : Fin cfg0.N) : FVec Ideal S256x128 .f32 := k0_pay4 (iblk m c 2 t) (iblk m c 1 t)
def sinT (t : Fin cfg0.N) : FVec Ideal S256x128 .f32 := k0_pay5 (iblk m c 2 t) (iblk m c 1 t)
/-- The four groups together. -/
def groups (f : FVec Ideal S256x128 .f32 → FVec Ideal S256x128 .bf16) (p : FVec Ideal S256x512 .f32) : Vec Ideal S256x512 .bf16 :=
  View.canon [⟨Rect.unit ![0, 384] ![256, 128] inb_S256x512_S256x128_0_384, f (part3 p)⟩, ⟨Rect.unit ![0, 256] ![256, 128] inb_S256x512_S256x128_0_256, f (part2 p)⟩,
    ⟨Rect.unit ![0, 128] ![256, 128] inb_S256x512_S256x128_0_128, f (part1 p)⟩, ⟨Rect.unit ![0, 0] ![256, 128] inb_S256x512_S256x128_0_0, f (part0 p)⟩]

/-- What a step leaves in its result windows, from the rows `e` kept before it. -/
structure Leaves (t : Fin cfg0.N) (e : Vec Ideal S8x1536 .f32) : Prop where
  q : (outsAt0 m c t.val t.isLt).1 = groups (fun f => scaled (turnTile f (cosT m c t) (hiOf (sinT m c t)) (loOf (sinT m c t))) (Named.named κ "q_scale" 0x3E38AA3B#32)) (cols (hid m c t) (wcols m c t 0 inb_S1024x4224_S1024x512_0_0))
  k : (outsAt0 m c t.val t.isLt).2.1 = groups (fun f => scaled (turnTile f (cosT m c t) (hiOf (sinT m c t)) (loOf (sinT m c t))) (Scalar.ofBits .f32 0x3F800000#32)) (cols (hid m c t) (wcols m c t 512 inb_S1024x4224_S1024x512_0_512))
  v : (outsAt0 m c t.val t.isLt).2.2.1 = truncf .bf16 (cols (hid m c t) (wcols m c t 1024 inb_S1024x4224_S1024x512_0_1024)) bitsLt_bf16_f32
  az : (outsAt0 m c t.val t.isLt).2.2.2.1 = truncf .bf16 (cols (hid m c t) (wcols m c t 1536 inb_S1024x4224_S1024x512_0_1536)) bitsLt_bf16_f32
  bq : (outsAt0 m c t.val t.isLt).2.2.2.2.1 = groups (fun f => scaled (unitTile f) (Named.named κ "head_scale" 0x3DB504F3#32)) (gatedCols (convolved (cols (hid m c t) (wcols m c t 2048 inb_S1024x4224_S1024x512_0_2048)) (keptOf e 0 inb_S8x1536_S8x512_0_0) (tap m c t 3 0 inb_S4x1536_S1x512_3_0) (tap m c t 2 0 inb_S4x1536_S1x512_2_0) (tap m c t 1 0 inb_S4x1536_S1x512_1_0) (tap m c t 0 0 inb_S4x1536_S1x512_0_0)))
  bk : (outsAt0 m c t.val t.isLt).2.2.2.2.2.1 = groups (fun f => scaled (unitTile f) (Scalar.ofBits .f32 0x3F800000#32)) (gatedCols (convolved (cols (hid m c t) (wcols m c t 2560 inb_S1024x4224_S1024x512_0_2560)) (keptOf e 512 inb_S8x1536_S8x512_0_512) (tap m c t 3 512 inb_S4x1536_S1x512_3_512) (tap m c t 2 512 inb_S4x1536_S1x512_2_512) (tap m c t 1 512 inb_S4x1536_S1x512_1_512) (tap m c t 0 512 inb_S4x1536_S1x512_0_512)))
  bv : (outsAt0 m c t.val t.isLt).2.2.2.2.2.2.1 = truncf .bf16 (gatedCols (convolved (cols (hid m c t) (wcols m c t 3072 inb_S1024x4224_S1024x512_0_3072)) (keptOf e 1024 inb_S8x1536_S8x512_0_1024) (tap m c t 3 1024 inb_S4x1536_S1x512_3_1024) (tap m c t 2 1024 inb_S4x1536_S1x512_2_1024) (tap m c t 1 1024 inb_S4x1536_S1x512_1_1024) (tap m c t 0 1024 inb_S4x1536_S1x512_0_1024))) bitsLt_bf16_f32
  bz : (outsAt0 m c t.val t.isLt).2.2.2.2.2.2.2.1 = truncf .bf16 (cols (hid m c t) (wcols m c t 3584 inb_S1024x4224_S1024x512_0_3584)) bitsLt_bf16_f32

/-- The rows that a sequence's first step zeroes. -/
abbrev zeroPiece : View.Piece (Elt Ideal) S8x1536 .f32 := ⟨Rect.unit ![0, 0] ![8, 1536] inb_S8x1536_S8x1536_0_0, k0_pay30 (F := Ideal)⟩
abbrev piece (o : ℕ) (inb : ∀ a, ![0, o] a + ![8, 512] a ≤ S8x1536.size a) (x : Vec Ideal S8x512 .f32) : View.Piece (Elt Ideal) S8x1536 .f32 :=
  ⟨Rect.unit ![0, o] ![8, 512] inb, x⟩

/-- Columns are not among a piece's that ends before them or starts after them. -/
theorem canon_skip (o j : ℕ) (inb : ∀ a, ![0, o] a + ![8, 512] a ≤ S8x1536.size a) (h : j < o ∨ o + 512 ≤ j) (hj : j < 1536)
    (x : Vec Ideal S8x512 .f32) (L : List (View.Piece (Elt Ideal) S8x1536 .f32)) (a : Fin 8) :
    View.canon (piece o inb x :: L) (ix2 a ⟨j, hj⟩) = View.canon L (ix2 a ⟨j, hj⟩) :=
  View.canon_cons_of_not_mem _ _ (Rect.not_mem_set_of_axis _ _ 1 o 512 rfl rfl rfl h)

theorem canon_same (o : ℕ) (inb : ∀ a, ![0, o] a + ![8, 512] a ≤ S8x1536.size a) (x : Vec Ideal S8x512 .f32)
    (L : List (View.Piece (Elt Ideal) S8x1536 .f32)) (a : Fin 8) (l : Fin 512) (hl : o + l.val < 1536) :
    View.canon (piece o inb x :: L) (ix2 a ⟨o + l.val, hl⟩) = x (ix2 a l) := by
  have e : (Rect.unit (s := S8x1536) ![0, o] ![8, 512] inb).emb (ix2 a l) = ix2 a ⟨o + l.val, hl⟩ :=
    Rect.emb_eq_of_coords _ _ _ fun b => by fin_cases b <;> simp
  rw [← e]
  exact View.canon_cons_emb _ _ _ _

theorem keptOf_apply (e : Vec Ideal S8x1536 .f32) (o : ℕ) (inb : ∀ a, ![0, o] a + ![8, 512] a ≤ S8x1536.size a) (a : Fin 8) (l : Fin 512) (hl : o + l.val < 1536) :
    keptOf e o inb (ix2 a l) = e (ix2 a ⟨o + l.val, hl⟩) :=
  View.ld_unit_apply_of e _ _ _ _ (ix2 a ⟨o + l.val, hl⟩) fun b => by fin_cases b <;> simp

theorem skipped (o o' : ℕ) (ho : o ≤ 1024) (inb : ∀ a, ![0, o] a + ![8, 512] a ≤ S8x1536.size a) (inb' : ∀ a, ![0, o'] a + ![8, 512] a ≤ S8x1536.size a)
    (h : o + 512 ≤ o' ∨ o' + 512 ≤ o) (x : Vec Ideal S8x512 .f32) (L : List (View.Piece (Elt Ideal) S8x1536 .f32)) :
    keptOf (View.canon (piece o' inb' x :: L)) o inb = keptOf (View.canon L) o inb := by
  funext y
  obtain ⟨a, l, rfl⟩ : ∃ (a : Fin 8) (l : Fin 512), y = ix2 a l := ⟨y 0, y 1, eq_ix2 y⟩
  rw [keptOf_apply _ _ _ _ _ (by omega), keptOf_apply _ _ _ _ _ (by omega), canon_skip _ _ _ (by omega)]

theorem same (o : ℕ) (ho : o ≤ 1024) (inb : ∀ a, ![0, o] a + ![8, 512] a ≤ S8x1536.size a) (x : Vec Ideal S8x512 .f32) (L : List (View.Piece (Elt Ideal) S8x1536 .f32)) :
    keptOf (View.canon (piece o inb x :: L)) o inb = x := by
  funext y
  obtain ⟨a, l, rfl⟩ : ∃ (a : Fin 8) (l : Fin 512), y = ix2 a l := ⟨y 0, y 1, eq_ix2 y⟩
  rw [keptOf_apply _ _ _ _ _ (by omega), canon_same]

theorem zeroed : View.canon [zeroPiece] = k0_pay30 (F := Ideal) := View.canon_cons_unit_lit _ _ _ (by decide)

/-- A read of rows that the step has zeroed. -/
theorem read_kept {sig : RefSig} {κ : Kind} {sp : Space} (v : View sig κ sp S8x1536 .f32) (L : List (View.Piece (Elt Ideal) S8x1536 .f32)) (hL : zeroPiece ∈ L)
    (o : ℕ) (inb : ∀ a, ![0, o] a + ![8, 512] a ≤ S8x1536.size a) :
    v.readCov (Val := Elt Ideal) L (Rect.unit ![0, o] ![8, 512] inb).toLoadRect = keptOf (View.canon L) o inb :=
  View.readCov_eq_canon_ld _ _ _ fun y => ⟨_, hL, View.mem_set_unit_zero (by funext a; fin_cases a <;> rfl) inb_S8x1536_S8x1536_0_0 y⟩

theorem read_zero {sig : RefSig} {κ : Kind} {sp : Space} (v : View sig κ sp S8x1536 .f32) :
    v.readCov (Val := Elt Ideal) [zeroPiece] (Rect.unit ![0, 0] ![8, 512] inb_S8x1536_S8x512_0_0).toLoadRect = keptOf (k0_pay30 (F := Ideal)) 0 inb_S8x1536_S8x512_0_0 := by
  rw [read_kept _ _ (by simp), zeroed]
theorem read_one {sig : RefSig} {κ : Kind} {sp : Space} (v : View sig κ sp S8x1536 .f32) (x : Vec Ideal S8x512 .f32) :
    v.readCov (Val := Elt Ideal) [piece 0 inb_S8x1536_S8x512_0_0 x, zeroPiece] (Rect.unit ![0, 512] ![8, 512] inb_S8x1536_S8x512_0_512).toLoadRect
      = keptOf (k0_pay30 (F := Ideal)) 512 inb_S8x1536_S8x512_0_512 := by
  rw [read_kept _ _ (by simp), skipped _ _ (by omega) _ _ (by omega), zeroed]
theorem read_two {sig : RefSig} {κ : Kind} {sp : Space} (v : View sig κ sp S8x1536 .f32) (x x' : Vec Ideal S8x512 .f32) :
    v.readCov (Val := Elt Ideal) [piece 512 inb_S8x1536_S8x512_0_512 x', piece 0 inb_S8x1536_S8x512_0_0 x, zeroPiece] (Rect.unit ![0, 1024] ![8, 512] inb_S8x1536_S8x512_0_1024).toLoadRect
      = keptOf (k0_pay30 (F := Ideal)) 1024 inb_S8x1536_S8x512_0_1024 := by
  rw [read_kept _ _ (by simp), skipped _ _ (by omega) _ _ (by omega), skipped _ _ (by omega) _ _ (by omega), zeroed]

/-- What the point before left. -/
abbrev before (t : Fin cfg0.N) := outsAt0 m c (t.val - 1) (Nat.lt_of_le_of_lt (Nat.sub_le _ _) t.isLt)

/-- A sequence's first step. -/
theorem leaves_A (t : Fin cfg0.N) (h0 : t.val % 8 = 0) : Leaves m c t (k0_pay30 (F := Ideal)) := by
  constructor
  · rw [outsAt0_A m c t h0]
    dsimp only
    unfold groups
    frame_out
    rfl
  · rw [outsAt0_A m c t h0]
    dsimp only
    unfold groups
    frame_out
    rfl
  · rw [outsAt0_A m c t h0]
    dsimp only
    frame_out
    rfl
  · rw [outsAt0_A m c t h0]
    dsimp only
    frame_out
    rfl
  · rw [outsAt0_A m c t h0]
    dsimp only
    unfold groups
    frame_out
    rw [read_zero]
    rfl
  · rw [outsAt0_A m c t h0]
    dsimp only
    unfold groups
    frame_out
    rw [read_one]
    rfl
  · rw [outsAt0_A m c t h0]
    dsimp only
    frame_out
    rw [read_two]
    rfl
  · rw [outsAt0_A m c t h0]
    dsimp only
    frame_out
    rfl

/-- A later step. -/
theorem leaves_B (t : Fin cfg0.N) (h0 : ¬t.val % 8 = 0) : Leaves m c t (before m c t).2.2.2.2.2.2.2.2.2 := by
  constructor
  · rw [outsAt0_B m c t h0]
    dsimp only
    unfold groups
    frame_out
    try simp only [read_unread_whole]
    rfl
  · rw [outsAt0_B m c t h0]
    dsimp only
    unfold groups
    frame_out
    try simp only [read_unread_whole]
    rfl
  · rw [outsAt0_B m c t h0]
    dsimp only
    frame_out
    try simp only [read_unread_whole]
    rfl
  · rw [outsAt0_B m c t h0]
    dsimp only
    frame_out
    try simp only [read_unread_whole]
    rfl
  · rw [outsAt0_B m c t h0]
    dsimp only
    unfold groups
    frame_out
    try simp only [read_unread_whole]
    rfl
  · rw [outsAt0_B m c t h0]
    dsimp only
    unfold groups
    frame_out
    try simp only [read_unread_whole]
    rfl
  · rw [outsAt0_B m c t h0]
    dsimp only
    frame_out
    try simp only [read_unread_whole]
    rfl
  · rw [outsAt0_B m c t h0]
    dsimp only
    frame_out
    try simp only [read_unread_whole]
    rfl

/-- The last eight rows of the convolution's columns, kept for the next step. -/
theorem keeps (t : Fin cfg0.N) : ∃ L, (outsAt0 m c t.val t.isLt).2.2.2.2.2.2.2.2.2 = View.canon
    (piece 1024 inb_S8x1536_S8x512_0_1024 (k0_pay53 (cols (hid m c t) (wcols m c t 3072 inb_S1024x4224_S1024x512_0_3072)))
      :: piece 512 inb_S8x1536_S8x512_0_512 (k0_pay43 (cols (hid m c t) (wcols m c t 2560 inb_S1024x4224_S1024x512_0_2560)))
      :: piece 0 inb_S8x1536_S8x512_0_0 (k0_pay33 (cols (hid m c t) (wcols m c t 2048 inb_S1024x4224_S1024x512_0_2048))) :: L) := by
  by_cases h0 : t.val % 8 = 0
  · refine ⟨[zeroPiece], ?_⟩
    rw [outsAt0_A m c t h0]
    dsimp only
    frame_out
    rfl
  · refine ⟨[], ?_⟩
    rw [outsAt0_B m c t h0]
    dsimp only
    frame_out
    rfl

theorem last_q (p : FVec Ideal S256x512 .f32) (a : Fin 8) (l : Fin 512) : (k0_pay33 p (ix2 a l) : EReal) = p (ix2 ⟨248 + a.val, by omega⟩ l) := by
  pointwise [k0_pay33]
theorem last_k (p : FVec Ideal S256x512 .f32) (a : Fin 8) (l : Fin 512) : (k0_pay43 p (ix2 a l) : EReal) = p (ix2 ⟨248 + a.val, by omega⟩ l) := by
  pointwise [k0_pay43]
theorem last_v (p : FVec Ideal S256x512 .f32) (a : Fin 8) (l : Fin 512) : (k0_pay53 p (ix2 a l) : EReal) = p (ix2 ⟨248 + a.val, by omega⟩ l) := by
  pointwise [k0_pay53]

/-- The rows kept by a step, section by section. -/
theorem kept_q (t : Fin cfg0.N) (a : Fin 8) (l : Fin 512) : (keptOf (outsAt0 m c t.val t.isLt).2.2.2.2.2.2.2.2.2 0 inb_S8x1536_S8x512_0_0 (ix2 a l) : EReal)
    = cols (hid m c t) (wcols m c t 2048 inb_S1024x4224_S1024x512_0_2048) (ix2 ⟨248 + a.val, by omega⟩ l) := by
  obtain ⟨L, hL⟩ := keeps m c t
  rw [hL, skipped _ _ (by omega) _ _ (by omega), skipped _ _ (by omega) _ _ (by omega), same _ (by omega)]
  exact last_q _ a l
theorem kept_k (t : Fin cfg0.N) (a : Fin 8) (l : Fin 512) : (keptOf (outsAt0 m c t.val t.isLt).2.2.2.2.2.2.2.2.2 512 inb_S8x1536_S8x512_0_512 (ix2 a l) : EReal)
    = cols (hid m c t) (wcols m c t 2560 inb_S1024x4224_S1024x512_0_2560) (ix2 ⟨248 + a.val, by omega⟩ l) := by
  obtain ⟨L, hL⟩ := keeps m c t
  rw [hL, skipped _ _ (by omega) _ _ (by omega), same _ (by omega)]
  exact last_k _ a l
theorem kept_v (t : Fin cfg0.N) (a : Fin 8) (l : Fin 512) : (keptOf (outsAt0 m c t.val t.isLt).2.2.2.2.2.2.2.2.2 1024 inb_S8x1536_S8x512_0_1024 (ix2 a l) : EReal)
    = cols (hid m c t) (wcols m c t 3072 inb_S1024x4224_S1024x512_0_3072) (ix2 ⟨248 + a.val, by omega⟩ l) := by
  obtain ⟨L, hL⟩ := keeps m c t
  rw [hL, same _ (by omega)]
  exact last_v _ a l

end Cert.Kernel4Ideal.First

end
-- ==== Proof.FirstKernel.lean ====
/-
  The first call's kernel: its step values as rows of the stage, and the eight result arrays after the run.
-/
module

public import proofs.«01_k».proof.Proof.FirstHost
public import proofs.«01_k».proof.Proof.FirstStep

@[expose] public section

set_option maxRecDepth 16384

noncomputable section

namespace Cert.Kernel4Ideal.First

open Cert.Kernel4Ideal Cert.Kernel4Ideal.Gen Idealize.ShloMosaic Idealize.ShloMosaic.TcCoe Cert.Spec
open scoped BigOperators

variable (m : (ℓ : Loc nD τ sig) → Buf (Elt Ideal) ℓ) (c : Dev nD)

/-! ## The projection -/

theorem hid_apply (t : Fin cfg0.N) (r : Fin 256) (k : Fin 1024) :
    (hid m c t (ix2 r k) : EReal) = rmsNorm ((entry m c).x (token t r)) (entry m c).pre k :=
  (hidden_apply (iblk m c 0 t) (iblk m c 3 t) r k).trans (congrFun (congrArg₂ rmsNorm (funext fun j => (iblk0 m c t r j).trans (host_x m c _ _))
    (funext fun j => (iblk3 m c t j).trans (host_g m c j))) k)

theorem proj_apply (t : Fin cfg0.N) (o : ℕ) (ho : o + 512 ≤ 4096) (inb : ∀ a, ![0, o] a + ![1024, 512] a ≤ S1024x4224.size a) (r : Fin 256) (l : Fin 512) :
    (cols (hid m c t) (wcols m c t o inb) (ix2 r l) : EReal) = (entry m c).proj (token t r) ⟨o + l.val, by omega⟩ := by
  refine (cols_apply _ _ r l).trans (Finset.sum_congr rfl fun k _ => congrArg₂ (· * ·) (hid_apply m c t r k) ?_)
  exact (View.ld_unit_apply_of (iblk m c 4 t) _ _ _ _ (ix2 k ⟨o + l.val, by omega⟩) fun a => by fin_cases a <;> simp).trans
    ((iblk4 m c t _ _).trans (host_w m c k ⟨o + l.val, by omega⟩))

theorem plain_apply (t : Fin cfg0.N) (o : ℕ) (ho : o + 512 ≤ 4096) (inb : ∀ a, ![0, o] a + ![1024, 512] a ≤ S1024x4224.size a) (r : Fin 256) (l : Fin 512) :
    (truncf .bf16 (cols (hid m c t) (wcols m c t o inb)) bitsLt_bf16_f32 (ix2 r l) : EReal) = (entry m c).proj (token t r) ⟨o + l.val, by omega⟩ := by
  rw [← proj_apply m c t o ho inb]
  pointwise

/-! ## The rotary embedding -/

theorem pos_apply (t : Fin cfg0.N) (r : Fin 256) :
    (FloatOps.sitofp (F := Ideal) .f32 (iblk m c 1 t (ix3 0 0 r) : BitVec 32) : EReal) = (entry m c).pos (token t r) := by
  refine congrArg (fun b : BitVec 32 => (FloatOps.sitofp (F := Ideal) .f32 b : EReal)) ((iblk1 m c t r).trans ((host_p m c _ _).trans ?_))
  have ht : t.val < 256 := t.isLt
  have hr := r.isLt
  refine congrArg₂ (fun a b => P m c (ix2 a b)) (Fin.ext ?_) (Fin.ext ?_)
  · show t.val / 8 = (256 * t.val + r.val) / 2048
    omega
  · show t.val % 8 * 256 + r.val = (256 * t.val + r.val) % 2048
    omega

theorem angle_at (t : Fin cfg0.N) (r : Fin 256) (l : Fin 128) :
    HMul.hMul (α := EReal) (β := EReal) (iblk m c 2 t (ix2 l 0)) (FloatOps.sitofp (F := Ideal) .f32 (iblk m c 1 t (ix3 0 0 r) : BitVec 32))
      = if l.val % 64 < 16 then (entry m c).angle (token t r) ⟨l.val % 8, by omega⟩ else 0 := by
  refine (congrArg₂ (HMul.hMul (α := EReal) (β := EReal)) ((iblk2 m c t l).trans (host_f m c l)) (pos_apply m c t r)).trans ?_
  split_ifs
  · exact mul_comm _ _
  · exact zero_mul _

theorem cosT_apply (t : Fin cfg0.N) (r : Fin 256) (l : Fin 128) :
    (cosT m c t (ix2 r l) : EReal) = if l.val % 64 < 16 then Ideal.cos ((entry m c).angle (token t r) ⟨l.val % 8, by omega⟩) else 1 := by
  refine (cos_apply (iblk m c 2 t) (iblk m c 1 t) l r).trans ((congrArg Ideal.cos (angle_at m c t r l)).trans ?_)
  split_ifs
  · rfl
  · show ((Real.cos 0 : ℝ) : EReal) = 1
    rw [Real.cos_zero]
    rfl

theorem sinT_apply (t : Fin cfg0.N) (r : Fin 256) (l : Fin 128) :
    (sinT m c t (ix2 r l) : EReal) = if l.val % 64 < 16 then Ideal.sin ((entry m c).angle (token t r) ⟨l.val % 8, by omega⟩) else 0 := by
  refine (sin_apply (iblk m c 2 t) (iblk m c 1 t) l r).trans ((congrArg Ideal.sin (angle_at m c t r l)).trans ?_)
  split_ifs
  · rfl
  · show ((Real.sin 0 : ℝ) : EReal) = 0
    rw [Real.sin_zero]
    rfl

/-- A row whose four groups are known is known. -/
theorem groups_apply (f : FVec Ideal S256x128 .f32 → FVec Ideal S256x128 .bf16) (p : FVec Ideal S256x512 .f32) (r : Fin 256) (G : Fin 512 → EReal)
    (g0 : ∀ b : Fin 128, (f (part0 p) (ix2 r b) : EReal) = G ⟨0 + b.val, by omega⟩) (g1 : ∀ b : Fin 128, (f (part1 p) (ix2 r b) : EReal) = G ⟨128 + b.val, by omega⟩)
    (g2 : ∀ b : Fin 128, (f (part2 p) (ix2 r b) : EReal) = G ⟨256 + b.val, by omega⟩) (g3 : ∀ b : Fin 128, (f (part3 p) (ix2 r b) : EReal) = G ⟨384 + b.val, by omega⟩)
    (l : Fin 512) : (groups f p (ix2 r l) : EReal) = G l := by
  unfold groups
  canon_tiles x h
  all_goals
    obtain ⟨a, b, rfl⟩ : ∃ (a : Fin 256) (b : Fin 128), x = ix2 a b := ⟨x 0, x 1, eq_ix2 x⟩
    have e0 : r.val = a.val := h0
    obtain rfl : r = a := Fin.ext e0
  · exact (g3 b).trans (congrArg G (Fin.ext (by have e1 : l.val = 384 + b.val := h1; exact e1.symm)))
  · exact (g2 b).trans (congrArg G (Fin.ext (by have e1 : l.val = 256 + b.val := h1; exact e1.symm)))
  · exact (g1 b).trans (congrArg G (Fin.ext (by have e1 : l.val = 128 + b.val := h1; exact e1.symm)))
  · exact (g0 b).trans (congrArg G (Fin.ext (by show 0 + b.val = l.val; have e1 : l.val = b.val := h1; omega)))

/-- Two heads' lanes, turned. -/
theorem turned_part (t : Fin cfg0.N) (o : ℕ) (ho : o + 512 ≤ 4096) (inb : ∀ a, ![0, o] a + ![1024, 512] a ≤ S1024x4224.size a) (q : ℕ) (hq : q + 128 ≤ 512)
    (hm : q % 64 = 0) (g : FVec Ideal S256x128 .f32) (r : Fin 256)
    (hg : ∀ j : Fin 128, (g (ix2 r j) : EReal) = cols (hid m c t) (wcols m c t o inb) (ix2 r ⟨q + j.val, by omega⟩)) (s : Ideal .f32) (b : Fin 128) :
    (scaled (turnTile g (cosT m c t) (hiOf (sinT m c t)) (loOf (sinT m c t))) s (ix2 r b) : EReal)
      = (entry m c).turned o (by omega) (token t r) ⟨q + b.val, by omega⟩ * (s : EReal) := by
  rw [scaled_apply, turnTile_apply g _ _ (fun j => Ideal.cos ((entry m c).angle (token t r) j)) (fun j => Ideal.sin ((entry m c).angle (token t r) j)) r (cosT_apply m c t r) (sinT_apply m c t r)]
  refine congrArg (· * (s : EReal)) ?_
  unfold Entry.turned
  refine congr (congrFun (congrFun (congrArg turn (funext fun d => ?_)) _) _) (Fin.ext ?_)
  · refine (hg _).trans ((proj_apply m c t o ho inb r _).trans (congrArg ((entry m c).proj (token t r)) (Fin.ext ?_)))
    show o + (q + (b.val / 64 * 64 + d.val)) = o + ((q + b.val) / 64 * 64 + d.val)
    omega
  · show b.val % 64 = (q + b.val) % 64
    omega

theorem turned_row (t : Fin cfg0.N) (o : ℕ) (ho : o + 512 ≤ 4096) (inb : ∀ a, ![0, o] a + ![1024, 512] a ≤ S1024x4224.size a) (s : Ideal .f32) (r : Fin 256) (l : Fin 512) :
    (groups (fun f => scaled (turnTile f (cosT m c t) (hiOf (sinT m c t)) (loOf (sinT m c t))) s) (cols (hid m c t) (wcols m c t o inb)) (ix2 r l) : EReal)
      = (entry m c).turned o (by omega) (token t r) l * (s : EReal) := by
  refine groups_apply _ _ r (fun l => (entry m c).turned o (by omega) (token t r) l * (s : EReal)) (fun b => ?_) (fun b => ?_) (fun b => ?_) (fun b => ?_) l
  · exact turned_part m c t o ho inb 0 (by omega) (by omega) _ r (fun j => by pointwise) s b
  · exact turned_part m c t o ho inb 128 (by omega) (by omega) _ r (fun j => by pointwise) s b
  · exact turned_part m c t o ho inb 256 (by omega) (by omega) _ r (fun j => by pointwise) s b
  · exact turned_part m c t o ho inb 384 (by omega) (by omega) _ r (fun j => by pointwise) s b

/-! ## The short convolution -/

theorem tap_apply (t : Fin cfg0.N) (i : Fin 4) (o : ℕ) (ho : o + 512 ≤ 1536) (inb : ∀ a, ![i.val, o] a + ![1, 512] a ≤ S4x1536.size a) (l : Fin 512) :
    (tap m c t i.val o inb (ix2 0 l) : EReal) = (entry m c).conv i ⟨o + l.val, by omega⟩ :=
  (View.ld_unit_apply_of (iblk m c 5 t) _ _ _ _ (ix2 i ⟨o + l.val, by omega⟩) fun a => by fin_cases a <;> simp).trans
    ((iblk5 m c t _ _).trans (host_k m c _ _))

/-- The rows kept before a step are the last eight of the step before, or zero at a sequence's start. -/
def Kept (t : Fin cfg0.N) (e : Vec Ideal S8x1536 .f32) : Prop :=
  ∀ (o : ℕ) (ho : o = 0 ∨ o = 512 ∨ o = 1024) (inb : ∀ a, ![0, o] a + ![8, 512] a ≤ S8x1536.size a) (a : Fin 8) (l : Fin 512),
    (keptOf e o inb (ix2 a l) : EReal) = if t.val % 8 = 0 then 0 else (entry m c).proj ⟨256 * (t.val - 1) + (248 + a.val), by have : t.val < 256 := t.isLt; omega⟩ ⟨2048 + (o + l.val), by omega⟩

theorem leaves (t : Fin cfg0.N) : ∃ e, Kept m c t e ∧ Leaves m c t e := by
  have ht : t.val < 256 := t.isLt
  by_cases h0 : t.val % 8 = 0
  · refine ⟨_, fun o ho inb a l => ?_, leaves_A m c t h0⟩
    rw [if_pos h0, keptOf_apply _ _ _ _ _ (by omega)]
    pointwise [k0_pay30]
  · refine ⟨_, fun o ho inb a l => ?_, leaves_B m c t h0⟩
    rw [if_neg h0]
    let p : Fin cfg0.N := ⟨t.val - 1, Nat.lt_of_le_of_lt (Nat.sub_le _ _) t.isLt⟩
    rcases ho with rfl | rfl | rfl
    · exact (kept_q m c p a l).trans ((proj_apply m c p 2048 (by omega) _ _ l).trans (congrArg ((entry m c).proj _) (Fin.ext (by show 2048 + l.val = 2048 + (0 + l.val); omega))))
    · exact (kept_k m c p a l).trans ((proj_apply m c p 2560 (by omega) _ _ l).trans (congrArg ((entry m c).proj _) (Fin.ext (by show 2560 + l.val = 2048 + (512 + l.val); omega))))
    · exact (kept_v m c p a l).trans ((proj_apply m c p 3072 (by omega) _ _ l).trans (congrArg ((entry m c).proj _) (Fin.ext (by show 3072 + l.val = 2048 + (1024 + l.val); omega))))

/-- The columns some tokens back, across the block's first row. -/
theorem back_apply (t : Fin cfg0.N) (e : Vec Ideal S8x1536 .f32) (he : Kept m c t e) (o : ℕ) (ho : o = 0 ∨ o = 512 ∨ o = 1024)
    (inb : ∀ a, ![0, 2048 + o] a + ![1024, 512] a ≤ S1024x4224.size a) (inb' : ∀ a, ![0, o] a + ![8, 512] a ≤ S8x1536.size a) (d : BitVec 32) (hd : d.toNat < 8)
    (r : Fin 256) (l : Fin 512) :
    (shifted d (cols (hid m c t) (wcols m c t (2048 + o) inb)) (keptOf e o inb') (ix2 r l) : EReal)
      = (entry m c).back d.toNat (token t r) ⟨o + l.val, by omega⟩ := by
  have ht : t.val < 256 := t.isLt
  have hr := r.isLt
  rw [shifted_apply _ hd]
  unfold Entry.back
  by_cases h : d.toNat ≤ r.val
  · rw [dif_pos h, if_pos (by show d.toNat ≤ (256 * t.val + r.val) % 2048; omega)]
    refine (proj_apply m c t _ (by omega) _ _ l).trans (congrArg₂ (entry m c).proj (Fin.ext ?_) (Fin.ext ?_))
    · show 256 * t.val + (r.val - d.toNat) = 256 * t.val + r.val - d.toNat
      omega
    · show 2048 + o + l.val = 2048 + (o + l.val)
      omega
  · rw [dif_neg h, he o ho]
    by_cases h0 : t.val % 8 = 0
    · rw [if_pos h0, if_neg (by show ¬d.toNat ≤ (256 * t.val + r.val) % 2048; omega)]
    · rw [if_neg h0, if_pos (by show d.toNat ≤ (256 * t.val + r.val) % 2048; omega)]
      refine congrArg₂ (entry m c).proj (Fin.ext ?_) rfl
      show 256 * (t.val - 1) + (248 + (8 + r.val - d.toNat)) = 256 * t.val + r.val - d.toNat
      omega

theorem short_apply (t : Fin cfg0.N) (e : Vec Ideal S8x1536 .f32) (he : Kept m c t e) (o : ℕ) (ho : o = 0 ∨ o = 512 ∨ o = 1024)
    (inb : ∀ a, ![0, 2048 + o] a + ![1024, 512] a ≤ S1024x4224.size a) (inb' : ∀ a, ![0, o] a + ![8, 512] a ≤ S8x1536.size a)
    (i3 : ∀ a, ![3, o] a + ![1, 512] a ≤ S4x1536.size a) (i2 : ∀ a, ![2, o] a + ![1, 512] a ≤ S4x1536.size a)
    (i1 : ∀ a, ![1, o] a + ![1, 512] a ≤ S4x1536.size a) (i0 : ∀ a, ![0, o] a + ![1, 512] a ≤ S4x1536.size a) (r : Fin 256) (l : Fin 512) :
    (gatedCols (convolved (cols (hid m c t) (wcols m c t (2048 + o) inb)) (keptOf e o inb') (tap m c t 3 o i3) (tap m c t 2 o i2) (tap m c t 1 o i1) (tap m c t 0 o i0)) (ix2 r l) : EReal)
      = (entry m c).short (token t r) ⟨o + l.val, by omega⟩ := by
  rw [gatedCols_apply, convolved_apply]
  unfold Entry.short
  refine congrArg gated (congrArg₂ (· + ·) (congrArg₂ (· + ·) (congrArg₂ (· + ·) (congrArg₂ (· * ·) (tap_apply m c t 3 o (by omega) i3 l) ?_)
    (congrArg₂ (· * ·) (tap_apply m c t 2 o (by omega) i2 l) (back_apply m c t e he o ho inb inb' 1#32 (by decide) r l)))
    (congrArg₂ (· * ·) (tap_apply m c t 1 o (by omega) i1 l) (back_apply m c t e he o ho inb inb' 2#32 (by decide) r l)))
    (congrArg₂ (· * ·) (tap_apply m c t 0 o (by omega) i0 l) (back_apply m c t e he o ho inb inb' 3#32 (by decide) r l)))
  unfold Entry.back
  rw [if_pos (Nat.zero_le _)]
  refine (proj_apply m c t _ (by omega) inb r l).trans (congrArg₂ (entry m c).proj rfl (Fin.ext ?_))
  show 2048 + o + l.val = 2048 + (o + l.val)
  omega

/-- A head's unit rows. -/
theorem unit_part (y : FVec Ideal S256x512 .f32) (o : ℕ) (ho : o + 512 ≤ 1536) (r : Fin 256) (k : Fin 65536)
    (hy : ∀ l : Fin 512, (y (ix2 r l) : EReal) = (entry m c).short k ⟨o + l.val, by omega⟩) (q : ℕ) (hq : q + 128 ≤ 512) (hm : q % 128 = 0)
    (g : FVec Ideal S256x128 .f32) (hg : ∀ j : Fin 128, (g (ix2 r j) : EReal) = y (ix2 r ⟨q + j.val, by omega⟩)) (s : Ideal .f32) (b : Fin 128) :
    (scaled (unitTile g) s (ix2 r b) : EReal) = (entry m c).units o ho k ⟨q + b.val, by omega⟩ * (s : EReal) := by
  rw [scaled_apply, unitTile_apply]
  refine congrArg (· * (s : EReal)) ?_
  have hb := b.isLt
  unfold Entry.units
  refine congr (congrArg unitRow (funext fun d => ?_)) (Fin.ext ?_)
  · refine (hg _).trans ((hy _).trans (congrArg ((entry m c).short k) (Fin.ext ?_)))
    show o + (q + d.val) = o + ((q + b.val) / 128 * 128 + d.val)
    omega
  · show b.val = (q + b.val) % 128
    omega

theorem units_row (y : FVec Ideal S256x512 .f32) (o : ℕ) (ho : o + 512 ≤ 1536) (r : Fin 256) (k : Fin 65536)
    (hy : ∀ l : Fin 512, (y (ix2 r l) : EReal) = (entry m c).short k ⟨o + l.val, by omega⟩) (s : Ideal .f32) (l : Fin 512) :
    (groups (fun f => scaled (unitTile f) s) y (ix2 r l) : EReal) = (entry m c).units o ho k l * (s : EReal) := by
  refine groups_apply _ _ r (fun l => (entry m c).units o ho k l * (s : EReal)) (fun b => ?_) (fun b => ?_) (fun b => ?_) (fun b => ?_) l
  · exact unit_part m c y o ho r k hy 0 (by omega) (by omega) _ (fun j => by pointwise) s b
  · exact unit_part m c y o ho r k hy 128 (by omega) (by omega) _ (fun j => by pointwise) s b
  · exact unit_part m c y o ho r k hy 256 (by omega) (by omega) _ (fun j => by pointwise) s b
  · exact unit_part m c y o ho r k hy 384 (by omega) (by omega) _ (fun j => by pointwise) s b

/-! ## The result arrays -/

def qOf (a : Entry) (r : Fin 65536) (l : Fin 512) : EReal := a.turned 0 (by omega) r l * (((8 * Real.log 2)⁻¹ : ℝ) : EReal)
def kOf (a : Entry) (r : Fin 65536) (l : Fin 512) : EReal := a.turned 512 (by omega) r l
def colOf (a : Entry) (o : ℕ) (ho : o + 512 ≤ 4104) (r : Fin 65536) (l : Fin 512) : EReal := a.proj r ⟨o + l.val, by omega⟩
def bqOf (a : Entry) (r : Fin 65536) (l : Fin 512) : EReal := a.units 0 (by omega) r l * (((Real.sqrt 128)⁻¹ : ℝ) : EReal)
def bkOf (a : Entry) (r : Fin 65536) (l : Fin 512) : EReal := a.units 512 (by omega) r l
def bvOf (a : Entry) (r : Fin 65536) (l : Fin 512) : EReal := a.short r ⟨1024 + l.val, by omega⟩

theorem times_one (x : EReal) : x * ((Scalar.ofBits .f32 0x3F800000#32 : Ideal .f32) : EReal) = x := by
  rw [show ((Scalar.ofBits .f32 0x3F800000#32 : Ideal .f32) : EReal) = 1 from Ideal.ofBits_one_f32, mul_one]

theorem result_q : (dats m 0 c).arrAt 8 cfg0.N = fun i : S65536x512.Idx => qOf (entry m c) (i 0) (i 1) := by
  refine (dats m 0 c).arrAt_eq_of_covers 8 _ covers8 fun t hf y => ?_
  blk_simp
  obtain ⟨e, he, hl⟩ := leaves m c t
  rw [after0_8, hl.q]
  obtain ⟨r, l, rfl⟩ : ∃ (r : Fin 256) (l : Fin 512), y = ix2 r l := ⟨y 0, y 1, eq_ix2 y⟩
  refine (turned_row m c t 0 (by omega) _ _ r l).trans ?_
  have e : (win0_8.blk t).view.emb (ix2 r l) = ix2 (token t r) l := by blk_ext [idx_results t]
  rw [e]
  rfl

theorem result_k : (dats m 0 c).arrAt 9 cfg0.N = fun i : S65536x512.Idx => kOf (entry m c) (i 0) (i 1) := by
  refine (dats m 0 c).arrAt_eq_of_covers 9 _ covers9 fun t hf y => ?_
  blk_simp
  obtain ⟨e, he, hl⟩ := leaves m c t
  rw [after0_9, hl.k]
  obtain ⟨r, l, rfl⟩ : ∃ (r : Fin 256) (l : Fin 512), y = ix2 r l := ⟨y 0, y 1, eq_ix2 y⟩
  refine ((turned_row m c t 512 (by omega) _ _ r l).trans (times_one _)).trans ?_
  have e : (win0_9.blk t).view.emb (ix2 r l) = ix2 (token t r) l := by blk_ext [idx_results t]
  rw [e]
  rfl

theorem result_v : (dats m 0 c).arrAt 10 cfg0.N = fun i : S65536x512.Idx => colOf (entry m c) 1024 (by omega) (i 0) (i 1) := by
  refine (dats m 0 c).arrAt_eq_of_covers 10 _ covers10 fun t hf y => ?_
  blk_simp
  obtain ⟨e, he, hl⟩ := leaves m c t
  rw [after0_10, hl.v]
  obtain ⟨r, l, rfl⟩ : ∃ (r : Fin 256) (l : Fin 512), y = ix2 r l := ⟨y 0, y 1, eq_ix2 y⟩
  refine (plain_apply m c t 1024 (by omega) _ r l).trans ?_
  have e : (win0_10.blk t).view.emb (ix2 r l) = ix2 (token t r) l := by blk_ext [idx_results t]
  rw [e]
  rfl

theorem result_az : (dats m 0 c).arrAt 11 cfg0.N = fun i : S65536x512.Idx => colOf (entry m c) 1536 (by omega) (i 0) (i 1) := by
  refine (dats m 0 c).arrAt_eq_of_covers 11 _ covers11 fun t hf y => ?_
  blk_simp
  obtain ⟨e, he, hl⟩ := leaves m c t
  rw [after0_11, hl.az]
  obtain ⟨r, l, rfl⟩ : ∃ (r : Fin 256) (l : Fin 512), y = ix2 r l := ⟨y 0, y 1, eq_ix2 y⟩
  refine (plain_apply m c t 1536 (by omega) _ r l).trans ?_
  have e : (win0_11.blk t).view.emb (ix2 r l) = ix2 (token t r) l := by blk_ext [idx_results t]
  rw [e]
  rfl

theorem result_bq : (dats m 0 c).arrAt 12 cfg0.N = fun i : S65536x512.Idx => bqOf (entry m c) (i 0) (i 1) := by
  refine (dats m 0 c).arrAt_eq_of_covers 12 _ covers12 fun t hf y => ?_
  blk_simp
  obtain ⟨e, he, hl⟩ := leaves m c t
  rw [after0_12, hl.bq]
  obtain ⟨r, l, rfl⟩ : ∃ (r : Fin 256) (l : Fin 512), y = ix2 r l := ⟨y 0, y 1, eq_ix2 y⟩
  refine (units_row m c _ 0 (by omega) r (token t r) (fun l => short_apply m c t e he 0 (by omega) _ _ _ _ _ _ r l) _ l).trans ?_
  have e : (win0_12.blk t).view.emb (ix2 r l) = ix2 (token t r) l := by blk_ext [idx_results t]
  rw [e]
  rfl

theorem result_bk : (dats m 0 c).arrAt 13 cfg0.N = fun i : S65536x512.Idx => bkOf (entry m c) (i 0) (i 1) := by
  refine (dats m 0 c).arrAt_eq_of_covers 13 _ covers13 fun t hf y => ?_
  blk_simp
  obtain ⟨e, he, hl⟩ := leaves m c t
  rw [after0_13, hl.bk]
  obtain ⟨r, l, rfl⟩ : ∃ (r : Fin 256) (l : Fin 512), y = ix2 r l := ⟨y 0, y 1, eq_ix2 y⟩
  refine ((units_row m c _ 512 (by omega) r (token t r) (fun l => short_apply m c t e he 512 (by omega) _ _ _ _ _ _ r l) _ l).trans (times_one _)).trans ?_
  have e : (win0_13.blk t).view.emb (ix2 r l) = ix2 (token t r) l := by blk_ext [idx_results t]
  rw [e]
  rfl

theorem stored (y : FVec Ideal S256x512 .f32) (r : Fin 256) (l : Fin 512) : (truncf .bf16 y bitsLt_bf16_f32 (ix2 r l) : EReal) = y (ix2 r l) := by
  pointwise

theorem result_bv : (dats m 0 c).arrAt 14 cfg0.N = fun i : S65536x512.Idx => bvOf (entry m c) (i 0) (i 1) := by
  refine (dats m 0 c).arrAt_eq_of_covers 14 _ covers14 fun t hf y => ?_
  blk_simp
  obtain ⟨e, he, hl⟩ := leaves m c t
  rw [after0_14, hl.bv]
  obtain ⟨r, l, rfl⟩ : ∃ (r : Fin 256) (l : Fin 512), y = ix2 r l := ⟨y 0, y 1, eq_ix2 y⟩
  refine ((stored _ r l).trans (short_apply m c t e he 1024 (by omega) _ _ _ _ _ _ r l)).trans ?_
  have e : (win0_14.blk t).view.emb (ix2 r l) = ix2 (token t r) l := by blk_ext [idx_results t]
  rw [e]
  rfl

theorem result_bz : (dats m 0 c).arrAt 15 cfg0.N = fun i : S65536x512.Idx => colOf (entry m c) 3584 (by omega) (i 0) (i 1) := by
  refine (dats m 0 c).arrAt_eq_of_covers 15 _ covers15 fun t hf y => ?_
  blk_simp
  obtain ⟨e, he, hl⟩ := leaves m c t
  rw [after0_15, hl.bz]
  obtain ⟨r, l, rfl⟩ : ∃ (r : Fin 256) (l : Fin 512), y = ix2 r l := ⟨y 0, y 1, eq_ix2 y⟩
  refine (plain_apply m c t 3584 (by omega) _ r l).trans ?_
  have e : (win0_15.blk t).view.emb (ix2 r l) = ix2 (token t r) l := by blk_ext [idx_results t]
  rw [e]
  rfl

end Cert.Kernel4Ideal.First

end
-- ==== Proof.FirstReference.lean ====
/-
  The first stage's reference, at an index: the projection's columns, the turned heads, the short convolution and its unit rows.
-/
module

public import proofs.«01_k».proof.Proof.Gen.Reference4Ideal.Run
public import proofs.«01_k».proof.Proof.First
public import proofs.«01_k».proof.Proof.Softmax
public import Idealize.ShloMosaic.Lib.Pointwise

@[expose] public section

set_option maxRecDepth 16384

noncomputable section

namespace Cert.Reference4Ideal.First

open Cert.Reference4Ideal Cert.Reference4Ideal.Gen Cert.Reference4Ideal.Value Idealize.ShloMosaic Idealize.ShloMosaic.TcCoe Idealize.ShloMosaic.StableHlo
open Cert.Spec
open scoped BigOperators

variable (m : (ℓ : Loc nD τ sig) → Buf (Elt Ideal) ℓ) (c : Dev nD)

/-! The launch's arguments, as arrays. -/

abbrev X : FVec Ideal S65536x1024 .f32 := m ((c : Thread nD τ).loc main_arg0)
abbrev P : IVec S32x2048 32 := m ((c : Thread nD τ).loc main_arg1)
abbrev G : FVec Ideal S2x1024 .f32 := m ((c : Thread nD τ).loc main_arg2)
abbrev W : FVec Ideal S1024x4104 .f32 := m ((c : Thread nD τ).loc main_arg3)
abbrev K : FVec Ideal S4x1536 .f32 := m ((c : Thread nD τ).loc main_arg4)

/-- The launch's arguments as the stage's. -/
def entry : Entry where
  x r l := X m c (ix2 r l)
  pos r := (FloatOps.sitofp (F := Ideal) .f32 (P m c (ix2 ⟨r.val / 2048, by omega⟩ ⟨r.val % 2048, by omega⟩)) : EReal)
  pre l := G m c (ix2 0 l)
  win k j := W m c (ix2 k j)
  conv i j := K m c (ix2 i j)

theorem proj_apply (r : Fin 65536) (j : Fin 4104) : (res_main_v15 (launchContents m c) (ix2 r j) : EReal) = (entry m c).proj r j := by
  unfold Entry.proj rmsNorm
  pointwise [res_main_v15]
  rfl

theorem angle_apply (r : Fin 65536) (j : Fin 8) : (res_main_v39 (launchContents m c) (ix2 r j) : EReal) = (entry m c).angle r j := by
  unfold Entry.angle frequency
  pointwise [res_main_v39]
  rfl

theorem angle_again (r : Fin 65536) (j : Fin 8) : (res_main_v74 (launchContents m c) (ix2 r j) : EReal) = (entry m c).angle r j := angle_apply m c r j

/-! ## The turned heads -/

/-- Every head's first two runs of eight lanes turned, the rest kept. -/
def turned3 (y : FVec Ideal S65536x8x64 .f32) (cs sn : FVec Ideal S65536x1x8 .f32) : FVec Ideal S65536x8x64 .f32 :=
  concatenate S65536x8x64 2
    [⟨S65536x8x8, subf (mulf (extractStridedSlice S65536x8x8 ![0, 0, 0] y slices_S65536x8x64_S65536x8x8_0_0_0) (broadcastInDim S65536x8x8 ![0, 1, 2] bcast_S65536x1x8_S65536x8x8_0_1_2 cs))
        (mulf (extractStridedSlice S65536x8x8 ![0, 0, 8] y slices_S65536x8x64_S65536x8x8_0_0_8) (broadcastInDim S65536x8x8 ![0, 1, 2] bcast_S65536x1x8_S65536x8x8_0_1_2 sn))⟩,
      ⟨S65536x8x8, addf (mulf (extractStridedSlice S65536x8x8 ![0, 0, 8] y slices_S65536x8x64_S65536x8x8_0_0_8) (broadcastInDim S65536x8x8 ![0, 1, 2] bcast_S65536x1x8_S65536x8x8_0_1_2 cs))
        (mulf (extractStridedSlice S65536x8x8 ![0, 0, 0] y slices_S65536x8x64_S65536x8x8_0_0_0) (broadcastInDim S65536x8x8 ![0, 1, 2] bcast_S65536x1x8_S65536x8x8_0_1_2 sn))⟩,
      ⟨S65536x8x48, extractStridedSlice S65536x8x48 ![0, 0, 16] y slices_S65536x8x64_S65536x8x48_0_0_16⟩]
    concatenates_S65536x8x8_S65536x8x8_S65536x8x48_S65536x8x64_d2

theorem turned3_apply (y : FVec Ideal S65536x8x64 .f32) (cs sn : FVec Ideal S65536x1x8 .f32) (r : Fin 65536) (h : Fin 8) (d : Fin 64) :
    (turned3 y cs sn (ix3 r h d) : EReal) = turn (fun d => y (ix3 r h d)) (fun j => cs (ix3 r 0 j)) (fun j => sn (ix3 r 0 j)) d := by
  unfold turn
  by_cases h1 : d.val < 8
  · rw [dif_pos h1]
    pointwise [turned3]
    simp [h1]
  · by_cases h2 : d.val < 16
    · rw [dif_neg h1, dif_pos h2]
      pointwise [turned3]
      have e : (⟨8 + (d.val - 8), by omega⟩ : Fin 64) = d := Fin.ext (by simp only; omega)
      simp [h1, show d.val - 8 < 8 by omega, e]
    · rw [dif_neg h1, dif_neg h2]
      pointwise [turned3]
      have e : (⟨16 + (d.val - 8 - 8), by omega⟩ : Fin 64) = d := Fin.ext (by simp only; omega)
      simp [h1, show ¬d.val - 8 < 8 by omega, e]

/-- Eight heads of 64 lanes of the projection's columns from `o`. -/
theorem heads_apply (p : FVec Ideal S65536x512 .f32) (r : Fin 65536) (h : Fin 8) (d : Fin 64) :
    (shapeCast S65536x8x64 p shapeCasts_S65536x512_S65536x8x64 (ix3 r h d) : EReal) = p (ix2 r ⟨h.val * 64 + d.val, by omega⟩) := by
  pointwise

theorem flat_apply (y : FVec Ideal S65536x8x64 .f32) (r : Fin 65536) (l : Fin 512) :
    (shapeCast S65536x512 y shapeCasts_S65536x8x64_S65536x512 (ix2 r l) : EReal) = y (ix3 r ⟨l.val / 64, by omega⟩ ⟨l.val % 64, by omega⟩) := by
  pointwise

def qcols : FVec Ideal S65536x512 .bf16 :=
  truncf .bf16 (mulf (shapeCast _ (turned3 (res_main_v24 (launchContents m c)) (res_main_v41 (launchContents m c)) (res_main_v43 (launchContents m c))) shapeCasts_S65536x8x64_S65536x512)
    (broadcastInDim S65536x512 ![] bcast_S_S65536x512 (Host.divf (constant S_ .f32 0x3E000000#32) (Host.log (constant S_ .f32 0x40000000#32))))) bitsLt_bf16_f32
def kcols : FVec Ideal S65536x512 .bf16 :=
  truncf .bf16 (shapeCast _ (turned3 (res_main_v59 (launchContents m c)) (res_main_v76 (launchContents m c)) (res_main_v78 (launchContents m c))) shapeCasts_S65536x8x64_S65536x512) bitsLt_bf16_f32

theorem turned_q (r : Fin 65536) (l : Fin 512) :
    (turned3 (res_main_v24 (launchContents m c)) (res_main_v41 (launchContents m c)) (res_main_v43 (launchContents m c)) (ix3 r ⟨l.val / 64, by omega⟩ ⟨l.val % 64, by omega⟩) : EReal)
      = (entry m c).turned 0 (by omega) r l := by
  rw [turned3_apply]
  unfold Entry.turned
  refine congrFun (congr (congr (congrArg turn (funext fun d => ?_)) (funext fun j => ?_)) (funext fun j => ?_)) _
  · unfold res_main_v24
    refine (heads_apply _ r _ d).trans (Eq.trans ?_ (proj_apply m c r _))
    pointwise
  · refine Eq.trans ?_ (congrArg Ideal.cos (angle_apply m c r j))
    pointwise [res_main_v41]
  · refine Eq.trans ?_ (congrArg Ideal.sin (angle_apply m c r j))
    pointwise [res_main_v43]

theorem turned_k (r : Fin 65536) (l : Fin 512) :
    (turned3 (res_main_v59 (launchContents m c)) (res_main_v76 (launchContents m c)) (res_main_v78 (launchContents m c)) (ix3 r ⟨l.val / 64, by omega⟩ ⟨l.val % 64, by omega⟩) : EReal)
      = (entry m c).turned 512 (by omega) r l := by
  rw [turned3_apply]
  unfold Entry.turned
  refine congrFun (congr (congr (congrArg turn (funext fun d => ?_)) (funext fun j => ?_)) (funext fun j => ?_)) _
  · unfold res_main_v59
    refine (heads_apply _ r _ d).trans (Eq.trans ?_ (proj_apply m c r _))
    pointwise
  · refine Eq.trans ?_ (congrArg Ideal.cos (angle_again m c r j))
    pointwise [res_main_v76]
  · refine Eq.trans ?_ (congrArg Ideal.sin (angle_again m c r j))
    pointwise [res_main_v78]

theorem result_q (r : Fin 65536) (l : Fin 512) : (qcols m c (ix2 r l) : EReal) = (entry m c).turned 0 (by omega) r l * (((8 * Real.log 2)⁻¹ : ℝ) : EReal) := by
  rw [← turned_q]
  pointwise [qcols]
  rw [Softmax.eighth, Softmax.two, Softmax.scale]
  exact congrArg (fun y : ℝ => _ * (y : EReal)) (by rw [mul_inv, div_eq_mul_inv]; norm_num)

theorem result_k (r : Fin 65536) (l : Fin 512) : (kcols m c (ix2 r l) : EReal) = (entry m c).turned 512 (by omega) r l := by
  rw [← turned_k]
  pointwise [kcols]

/-! ## The plain columns -/

def vcols : FVec Ideal S65536x512 .bf16 := truncf .bf16 (extractStridedSlice S65536x512 ![0, 1024] (res_main_v15 (launchContents m c)) slices_S65536x4104_S65536x512_0_1024) bitsLt_bf16_f32
def azcols : FVec Ideal S65536x512 .bf16 := truncf .bf16 (extractStridedSlice S65536x512 ![0, 1536] (res_main_v15 (launchContents m c)) slices_S65536x4104_S65536x512_0_1536) bitsLt_bf16_f32
def bzcols : FVec Ideal S65536x512 .bf16 := truncf .bf16 (extractStridedSlice S65536x512 ![0, 3584] (res_main_v15 (launchContents m c)) slices_S65536x4104_S65536x512_0_3584) bitsLt_bf16_f32

theorem result_v (r : Fin 65536) (l : Fin 512) : (vcols m c (ix2 r l) : EReal) = (entry m c).proj r ⟨1024 + l.val, by omega⟩ := by
  rw [← proj_apply]
  pointwise [vcols]
theorem result_az (r : Fin 65536) (l : Fin 512) : (azcols m c (ix2 r l) : EReal) = (entry m c).proj r ⟨1536 + l.val, by omega⟩ := by
  rw [← proj_apply]
  pointwise [azcols]
theorem result_bz (r : Fin 65536) (l : Fin 512) : (bzcols m c (ix2 r l) : EReal) = (entry m c).proj r ⟨3584 + l.val, by omega⟩ := by
  rw [← proj_apply]
  pointwise [bzcols]

/-! ## The short convolution -/

/-- The padded columns, `d` tokens before token `t` of its sequence. -/
theorem padded_apply (b : Fin 32) (i : ℕ) (hi : i < 4) (t : Fin 2048) (j : Fin 1536) :
    (res_main_v99 (launchContents m c) (ix3 b ⟨i + t.val, by omega⟩ j) : EReal) = (entry m c).back (3 - i) ⟨b.val * 2048 + t.val, by omega⟩ j := by
  unfold Entry.back
  rw [← proj_apply]
  pointwise [res_main_v99]
  have ht := t.isLt
  by_cases h : 3 - i ≤ t.val
  · rw [dif_pos (by omega), if_pos (by omega)]
    exact congrArg (fun q => (res_main_v15 (launchContents m c) (ix2 q ⟨2048 + j.val, by omega⟩) : EReal)) (Fin.ext (by simp only; omega))
  · rw [dif_neg (by omega), if_neg (by omega)]
    show (((0#32).toInt : ℝ) : EReal) = 0
    simp

/-- The convolution before its gate. -/
def sumOf (a : Entry) (r : Fin 65536) (j : Fin 1536) : EReal := a.conv 3 j * a.back 0 r j + a.conv 2 j * a.back 1 r j + a.conv 1 j * a.back 2 r j + a.conv 0 j * a.back 3 r j

theorem sum_reversed (a b c d : EReal) : a + b + c + d = d + c + b + a := by ac_rfl

theorem conv_apply (b : Fin 32) (t : Fin 2048) (j : Fin 1536) :
    (res_main_v128 (launchContents m c) (ix3 b t j) : EReal) = sumOf (entry m c) ⟨b.val * 2048 + t.val, by omega⟩ j := by
  unfold sumOf
  rw [← padded_apply m c b 3 (by omega) t j, ← padded_apply m c b 2 (by omega) t j, ← padded_apply m c b 1 (by omega) t j, ← padded_apply m c b 0 (by omega) t j]
  pointwise [res_main_v128]
  exact sum_reversed _ _ _ _

theorem short_apply (r : Fin 65536) (j : Fin 1536) : (res_main_v130 (launchContents m c) (ix2 r j) : EReal) = (entry m c).short r j := by
  have e := conv_apply m c ⟨r.val / 2048, by omega⟩ ⟨r.val % 2048, by omega⟩ j
  have er : (⟨r.val / 2048 * 2048 + r.val % 2048, by omega⟩ : Fin 65536) = r := Fin.ext (by simp only; omega)
  unfold Entry.short gated
  rw [er] at e
  unfold sumOf at e
  rw [← e]
  pointwise [res_main_v130]

/-- Four heads of 128 lanes. -/
theorem quarters_apply (p : FVec Ideal S65536x512 .f32) (r : Fin 65536) (h : Fin 4) (d : Fin 128) :
    (shapeCast S65536x4x128 p shapeCasts_S65536x512_S65536x4x128 (ix3 r h d) : EReal) = p (ix2 r ⟨h.val * 128 + d.val, by omega⟩) := by
  pointwise

def unitCols (y : FVec Ideal S65536x4x128 .f32) : FVec Ideal S65536x4x128 .f32 :=
  mulf y (broadcastInDim S65536x4x128 ![0, 1, 2] bcast_S65536x4x1_S65536x4x128_0_1_2
    (Host.rsqrt (addf (broadcastInDim S65536x4x1 ![0, 1] bcast_S65536x4_S65536x4x1_0_1 (Host.reduceAdd (mulf y y) (constant S_ .f32 0x00000000#32) reducesTo_S65536x4x128_S65536x4_d2 h_S_))
      (broadcastInDim S65536x4x1 ![] bcast_S_S65536x4x1 (constant S_ .f32 0x358637BD#32)))))

theorem unitCols_apply (y : FVec Ideal S65536x4x128 .f32) (r : Fin 65536) (h : Fin 4) (d : Fin 128) :
    (unitCols y (ix3 r h d) : EReal) = unitRow (fun j => y (ix3 r h j)) d := by
  unfold unitRow
  pointwise [unitCols]

theorem units_q (r : Fin 65536) (l : Fin 512) :
    (unitCols (res_main_v134 (launchContents m c)) (ix3 r ⟨l.val / 128, by omega⟩ ⟨l.val % 128, by omega⟩) : EReal) = (entry m c).units 0 (by omega) r l := by
  rw [unitCols_apply]
  unfold Entry.units
  refine congrFun (congrArg unitRow (funext fun d => ?_)) _
  unfold res_main_v134
  refine (quarters_apply _ r _ d).trans (Eq.trans ?_ (short_apply m c r _))
  pointwise

theorem units_k (r : Fin 65536) (l : Fin 512) :
    (unitCols (res_main_v148 (launchContents m c)) (ix3 r ⟨l.val / 128, by omega⟩ ⟨l.val % 128, by omega⟩) : EReal) = (entry m c).units 512 (by omega) r l := by
  rw [unitCols_apply]
  unfold Entry.units
  refine congrFun (congrArg unitRow (funext fun d => ?_)) _
  unfold res_main_v148
  refine (quarters_apply _ r _ d).trans (Eq.trans ?_ (short_apply m c r _))
  pointwise

def bqcols : FVec Ideal S65536x512 .bf16 :=
  truncf .bf16 (shapeCast _ (mulf (unitCols (res_main_v134 (launchContents m c))) (broadcastInDim S65536x4x128 ![] bcast_S_S65536x4x128
    (Host.divf (constant S_ .f32 0x3F800000#32) (Host.sqrt (constant S_ .f32 0x43000000#32))))) shapeCasts_S65536x4x128_S65536x512) bitsLt_bf16_f32
def bkcols : FVec Ideal S65536x512 .bf16 :=
  truncf .bf16 (shapeCast _ (unitCols (res_main_v148 (launchContents m c))) shapeCasts_S65536x4x128_S65536x512) bitsLt_bf16_f32
def bvcols : FVec Ideal S65536x512 .bf16 :=
  truncf .bf16 (extractStridedSlice S65536x512 ![0, 1024] (res_main_v130 (launchContents m c)) slices_S65536x1536_S65536x512_0_1024) bitsLt_bf16_f32

theorem head_factor : Ideal.div 1 (Ideal.sqrt (Ideal.ofBits .f32 0x43000000#32)) = (((Real.sqrt 128)⁻¹ : ℝ) : EReal) := by
  rw [show Ideal.ofBits .f32 0x43000000#32 = ((128 : ℝ) : EReal) by simp [Ideal.ofBits, Ideal.ieee, -EReal.coe_mul]; norm_num]
  rw [Ideal.sqrt_coe, if_neg (by norm_num), Softmax.div_coe_pos _ _ (Real.sqrt_pos.2 (by norm_num)), mul_one]

theorem result_bq (r : Fin 65536) (l : Fin 512) : (bqcols m c (ix2 r l) : EReal) = (entry m c).units 0 (by omega) r l * (((Real.sqrt 128)⁻¹ : ℝ) : EReal) := by
  rw [← units_q]
  pointwise [bqcols]
  rw [head_factor]

theorem result_bk (r : Fin 65536) (l : Fin 512) : (bkcols m c (ix2 r l) : EReal) = (entry m c).units 512 (by omega) r l := by
  rw [← units_k]
  pointwise [bkcols]

theorem result_bv (r : Fin 65536) (l : Fin 512) : (bvcols m c (ix2 r l) : EReal) = (entry m c).short r ⟨1024 + l.val, by omega⟩ := by
  rw [← short_apply]
  pointwise [bvcols]

end Cert.Reference4Ideal.First

end
-- ==== Proof.FirstClaims.lean ====
/-
  The claims about the first call: the frames, the two named constants, and the equations of the eight result arrays.
-/
module

public import proofs.«01_k».proof.Defs
public import proofs.«01_k».proof.Proof.Gen.Kernel4.Frame
public import proofs.«01_k».proof.Proof.Gen.Kernel4Ideal.Value
public import proofs.«01_k».proof.Proof.FirstKernel
public import proofs.«01_k».proof.Proof.FirstReference

@[expose] public section

set_option maxRecDepth 16384

noncomputable section

namespace Cert.FirstClaims

open Idealize.ShloMosaic Idealize.ShloMosaic.TcCoe Idealize.SL.Sem

theorem frame : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2.2.2.2.2, Idealize.ShloMosaic.sem_eq_zero_of_no_sems (by decide) r.2⟩)
    (Cert.Reference4Ideal.Value.run (F := Ideal) m ρ)

theorem preserves : Cert.preserves_Kernel4_Kernel4Ideal :=
  ⟨IdealRules.named_const.statement Cert.Kernel4Ideal.κ "q_scale" .f32 0x3E38AA3B#32 _ rfl,
    IdealRules.named_const.statement Cert.Kernel4Ideal.κ "head_scale" .f32 0x3DB504F3#32 _ rfl⟩

/-- Two arrays of a row of 512 lanes per token are equal if their lanes are. -/
theorem rows_eq (y : FVec Ideal Cert.Reference4Ideal.S65536x512 .bf16) (G : Fin 65536 → Fin 512 → EReal) (h : ∀ r l, (y (ix2 r l) : EReal) = G r l) :
    y = fun i : Cert.Reference4Ideal.S65536x512.Idx => G (i 0) (i 1) := by
  funext i
  obtain ⟨r, l, rfl⟩ : ∃ (r : Fin 65536) (l : Fin 512), i = ix2 r l := ⟨i 0, i 1, eq_ix2 i⟩
  exact h r l

section Kernel

open Cert.Kernel4Ideal Cert.Kernel4Ideal.Gen

/-- The kernel's run, its eight claimed arrays. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v39_0) = (dats m 0 c).arrAt 8 cfg0.N
      ∧ r.2.mem ((c : Thread nD τ).loc main_v39_1) = (dats m 0 c).arrAt 9 cfg0.N
      ∧ r.2.mem ((c : Thread nD τ).loc main_v39_2) = (dats m 0 c).arrAt 10 cfg0.N
      ∧ r.2.mem ((c : Thread nD τ).loc main_v39_3) = (dats m 0 c).arrAt 11 cfg0.N
      ∧ r.2.mem ((c : Thread nD τ).loc main_v39_4) = (dats m 0 c).arrAt 12 cfg0.N
      ∧ r.2.mem ((c : Thread nD τ).loc main_v39_5) = (dats m 0 c).arrAt 13 cfg0.N
      ∧ r.2.mem ((c : Thread nD τ).loc main_v39_6) = (dats m 0 c).arrAt 14 cfg0.N
      ∧ r.2.mem ((c : Thread nD τ).loc main_v39_7) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.2⟩) (Cert.Kernel4Ideal.Value.run_blocks m ρ)

end Kernel

section Reference

open Cert.Reference4Ideal Cert.Reference4Ideal.First

/-- The reference's run, its arrays named. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v158) = qcols m c
      ∧ r.2.mem ((c.tc : Thread nD τ).loc main_v159) = kcols m c
      ∧ r.2.mem ((c.tc : Thread nD τ).loc main_v160) = vcols m c
      ∧ r.2.mem ((c.tc : Thread nD τ).loc main_v161) = azcols m c
      ∧ r.2.mem ((c.tc : Thread nD τ).loc main_v162) = bqcols m c
      ∧ r.2.mem ((c.tc : Thread nD τ).loc main_v163) = bkcols m c
      ∧ r.2.mem ((c.tc : Thread nD τ).loc main_v164) = bvcols m c
      ∧ r.2.mem ((c.tc : Thread nD τ).loc main_v165) = bzcols m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => h c) (Cert.Reference4Ideal.Value.run (F := Ideal) m ρ)

end Reference

/-- The two programs' arguments are the same stage's. -/
theorem entries (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (e0 : Cert.Reference4Ideal.First.X m' c = Cert.Kernel4Ideal.First.X m c) (e1 : Cert.Reference4Ideal.First.P m' c = Cert.Kernel4Ideal.First.P m c)
    (e2 : Cert.Reference4Ideal.First.G m' c = Cert.Kernel4Ideal.First.G m c) (e3 : Cert.Reference4Ideal.First.W m' c = Cert.Kernel4Ideal.First.W m c)
    (e4 : Cert.Reference4Ideal.First.K m' c = Cert.Kernel4Ideal.First.K m c) :
    Cert.Reference4Ideal.First.entry m' c = Cert.Kernel4Ideal.First.entry m c := by
  unfold Cert.Reference4Ideal.First.entry
  rw [e0, e1, e2, e3, e4]
  rfl

theorem same_q (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.qcols m' c = (Cert.Kernel4Ideal.Gen.dats m 0 c).arrAt 8 Cert.Kernel4Ideal.cfg0.N := by
  refine (rows_eq _ _ (Cert.Reference4Ideal.First.result_q m' c)).trans ?_
  rw [es]
  exact (Cert.Kernel4Ideal.First.result_q m c).symm

theorem same_k (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.kcols m' c = (Cert.Kernel4Ideal.Gen.dats m 0 c).arrAt 9 Cert.Kernel4Ideal.cfg0.N := by
  refine (rows_eq _ _ (Cert.Reference4Ideal.First.result_k m' c)).trans ?_
  rw [es]
  exact (Cert.Kernel4Ideal.First.result_k m c).symm

theorem same_v (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.vcols m' c = (Cert.Kernel4Ideal.Gen.dats m 0 c).arrAt 10 Cert.Kernel4Ideal.cfg0.N := by
  refine (rows_eq _ _ (Cert.Reference4Ideal.First.result_v m' c)).trans ?_
  rw [es]
  exact (Cert.Kernel4Ideal.First.result_v m c).symm

theorem same_az (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.azcols m' c = (Cert.Kernel4Ideal.Gen.dats m 0 c).arrAt 11 Cert.Kernel4Ideal.cfg0.N := by
  refine (rows_eq _ _ (Cert.Reference4Ideal.First.result_az m' c)).trans ?_
  rw [es]
  exact (Cert.Kernel4Ideal.First.result_az m c).symm

theorem same_bq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.bqcols m' c = (Cert.Kernel4Ideal.Gen.dats m 0 c).arrAt 12 Cert.Kernel4Ideal.cfg0.N := by
  refine (rows_eq _ _ (Cert.Reference4Ideal.First.result_bq m' c)).trans ?_
  rw [es]
  exact (Cert.Kernel4Ideal.First.result_bq m c).symm

theorem same_bk (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.bkcols m' c = (Cert.Kernel4Ideal.Gen.dats m 0 c).arrAt 13 Cert.Kernel4Ideal.cfg0.N := by
  refine (rows_eq _ _ (Cert.Reference4Ideal.First.result_bk m' c)).trans ?_
  rw [es]
  exact (Cert.Kernel4Ideal.First.result_bk m c).symm

theorem same_bv (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.bvcols m' c = (Cert.Kernel4Ideal.Gen.dats m 0 c).arrAt 14 Cert.Kernel4Ideal.cfg0.N := by
  refine (rows_eq _ _ (Cert.Reference4Ideal.First.result_bv m' c)).trans ?_
  rw [es]
  exact (Cert.Kernel4Ideal.First.result_bv m c).symm

theorem same_bz (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (es : Cert.Reference4Ideal.First.entry m' c = Cert.Kernel4Ideal.First.entry m c) :
    Cert.Reference4Ideal.First.bzcols m' c = (Cert.Kernel4Ideal.Gen.dats m 0 c).arrAt 15 Cert.Kernel4Ideal.cfg0.N := by
  refine (rows_eq _ _ (Cert.Reference4Ideal.First.result_bz m' c)).trans ?_
  rw [es]
  exact (Cert.Kernel4Ideal.First.result_bz m c).symm

set_option maxHeartbeats 4000000 in
/-- The result arrays of both programs are the same functions of the stage. -/
theorem algebraic : Cert.algebraic_Kernel4Ideal_Reference4Ideal := by
  intro m ρ m' ρ' _ hagree
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, fun c => (Cert.Kernel4Ideal.Gen.dats m 0 c).arrAt 11 Cert.Kernel4Ideal.cfg0.N,
    fun c => (Cert.Kernel4Ideal.Gen.dats m 0 c).arrAt 12 Cert.Kernel4Ideal.cfg0.N, fun c => (Cert.Kernel4Ideal.Gen.dats m 0 c).arrAt 13 Cert.Kernel4Ideal.cfg0.N,
    fun c => (Cert.Kernel4Ideal.Gen.dats m 0 c).arrAt 14 Cert.Kernel4Ideal.cfg0.N, fun c => (Cert.Kernel4Ideal.Gen.dats m 0 c).arrAt 15 Cert.Kernel4Ideal.cfg0.N,
    run_kernel m ρ, ?_⟩
  refine (θ_run Cert.Reference4Ideal.defs _ _).mono (fun r h c => ?_) (run_reference m' ρ')
  have ha := hagree c
  have es := entries m m' c ha.1 ha.2.1 ha.2.2.1 ha.2.2.2.1 ha.2.2.2.2.1
  exact ⟨(h c).1.trans (same_q m m' c es), (h c).2.1.trans (same_k m m' c es), (h c).2.2.1.trans (same_v m m' c es), (h c).2.2.2.1.trans (same_az m m' c es), (h c).2.2.2.2.1.trans (same_bq m m' c es), (h c).2.2.2.2.2.1.trans (same_bk m m' c es), (h c).2.2.2.2.2.2.1.trans (same_bv m m' c es), (h c).2.2.2.2.2.2.2.1.trans (same_bz m m' c es), (h c).2.2.2.2.2.2.2.2⟩

end Cert.FirstClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference2Ideal.Run
public import proofs.«01_k».proof.Proof.FoxClaims
public import proofs.«01_k».proof.Proof.OutProjClaims
public import proofs.«01_k».proof.Proof.MiddleClaims
public import proofs.«01_k».proof.Proof.FirstClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_inputs.holds,
  Cert.FoxClaims.frame, Cert.FoxClaims.frame_ideal, Cert.FoxClaims.frame_ideal_pre, Cert.FoxClaims.frame_reference, Cert.FoxClaims.frame_reference_pre,
  Cert.OutProjClaims.frame, Cert.OutProjClaims.frame_ideal, Cert.OutProjClaims.frame_reference,
  Cert.MiddleClaims.frame, Cert.MiddleClaims.frame_ideal, Cert.MiddleClaims.frame_reference,
  Cert.FirstClaims.frame, Cert.FirstClaims.frame_ideal, Cert.FirstClaims.frame_reference,
  Cert.FoxClaims.preserves, Cert.FoxClaims.algebraic, Cert.OutProjClaims.preserves, Cert.OutProjClaims.algebraic,
  Cert.MiddleClaims.preserves, Cert.MiddleClaims.algebraic, Cert.FirstClaims.preserves, Cert.FirstClaims.algebraic⟩

end Cert.Proof

end
